-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S32768x768 : Shape := ⟨2, ![32768, 768]⟩
abbrev S8x768 : Shape := ⟨2, ![8, 768]⟩
abbrev S8 : Shape := ⟨1, ![8]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S8x768 : S_.BroadcastsInDim S8x768 (![] : Fin 0 → Fin S8x768.rank)
  reducesTo_S8x768_S_d0_1 : S8x768.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S32768x768 .f32) (main_arg1 : FVec F S8x768 .f32) (main_arg2 : FVec F S8 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== KernelIdeal.lean ====
abbrev S32768x768 : Shape := ⟨2, ![32768, 768]⟩
abbrev S8x768 : Shape := ⟨2, ![8, 768]⟩
abbrev S8 : Shape := ⟨1, ![8]⟩
abbrev S8x32768 : Shape := ⟨2, ![8, 32768]⟩
abbrev S8x8192 : Shape := ⟨2, ![8, 8192]⟩
abbrev S4096x768 : Shape := ⟨2, ![4096, 768]⟩
abbrev S8x4096 : Shape := ⟨2, ![8, 4096]⟩
abbrev S8x1 : Shape := ⟨2, ![8, 1]⟩
abbrev S8x256 : Shape := ⟨2, ![8, 256]⟩
abbrev S_ : Shape := ⟨0, ![]⟩
abbrev S16 : Shape := ⟨1, ![16]⟩
abbrev S1x16 : Shape := ⟨2, ![1, 16]⟩
abbrev S32768x8 : Shape := ⟨2, ![32768, 8]⟩

abbrev nBuf : Table → Nat
  | .hbm => 9
  | .local .tc .vmem => 24
  | .local .scVector .vmem => 8
  | _ => 0

abbrev bufTy : (tb : Table) → Fin (nBuf tb) → BufTy
  | .hbm, ⟨0, _⟩ => ⟨S32768x768, .f32⟩
  | .hbm, ⟨1, _⟩ => ⟨S8x768, .f32⟩
  | .hbm, ⟨2, _⟩ => ⟨S8, .f32⟩
  | .hbm, ⟨3, _⟩ => ⟨S8x32768, .f32⟩
  | .hbm, ⟨4, _⟩ => ⟨S8x8192, .f32⟩
  | .hbm, ⟨5, _⟩ => ⟨S8x8192, .f32⟩
  | .hbm, ⟨6, _⟩ => ⟨S8x8192, .f32⟩
  | .hbm, ⟨7, _⟩ => ⟨S8x8192, .f32⟩
  | .hbm, ⟨8, _⟩ => ⟨S32768x8, .f32⟩
  | .local .tc .vmem, ⟨0, _⟩ => ⟨S4096x768, .f32⟩
  | .local .tc .vmem, ⟨1, _⟩ => ⟨S4096x768, .f32⟩
  | .local .tc .vmem, ⟨2, _⟩ => ⟨S8x768, .f32⟩
  | .local .tc .vmem, ⟨3, _⟩ => ⟨S8, .f32⟩
  | .local .tc .vmem, ⟨4, _⟩ => ⟨S8x4096, .f32⟩
  | .local .tc .vmem, ⟨5, _⟩ => ⟨S8x4096, .f32⟩
  | .local .tc .vmem, ⟨6, _⟩ => ⟨S4096x768, .f32⟩
  | .local .tc .vmem, ⟨7, _⟩ => ⟨S4096x768, .f32⟩
  | .local .tc .vmem, ⟨8, _⟩ => ⟨S8x768, .f32⟩
  | .local .tc .vmem, ⟨9, _⟩ => ⟨S8, .f32⟩
  | .local .tc .vmem, ⟨10, _⟩ => ⟨S8x4096, .f32⟩
  | .local .tc .vmem, ⟨11, _⟩ => ⟨S8x4096, .f32⟩
  | .local .tc .vmem, ⟨12, _⟩ => ⟨S4096x768, .f32⟩
  | .local .tc .vmem, ⟨13, _⟩ => ⟨S4096x768, .f32⟩
  | .local .tc .vmem, ⟨14, _⟩ => ⟨S8x768, .f32⟩
  | .local .tc .vmem, ⟨15, _⟩ => ⟨S8, .f32⟩
  | .local .tc .vmem, ⟨16, _⟩ => ⟨S8x4096, .f32⟩
  | .local .tc .vmem, ⟨17, _⟩ => ⟨S8x4096, .f32⟩
  | .local .tc .vmem, ⟨18, _⟩ => ⟨S4096x768, .f32⟩
  | .local .tc .vmem, ⟨19, _⟩ => ⟨S4096x768, .f32⟩
  | .local .tc .vmem, ⟨20, _⟩ => ⟨S8x768, .f32⟩
  | .local .tc .vmem, ⟨21, _⟩ => ⟨S8, .f32⟩
  | .local .tc .vmem, ⟨22, _⟩ => ⟨S8x4096, .f32⟩
  | .local .tc .vmem, ⟨23, _⟩ => ⟨S8x4096, .f32⟩
  | .local .scVector .vmem, ⟨0, _⟩ => ⟨S8x256, .f32⟩
  | .local .scVector .vmem, ⟨1, _⟩ => ⟨S8x256, .f32⟩
  | .local .scVector .vmem, ⟨2, _⟩ => ⟨S8x256, .f32⟩
  | .local .scVector .vmem, ⟨3, _⟩ => ⟨S8x256, .f32⟩
  | .local .scVector .vmem, ⟨4, _⟩ => ⟨S8x256, .f32⟩
  | .local .scVector .vmem, ⟨5, _⟩ => ⟨S8x256, .f32⟩
  | .local .scVector .vmem, ⟨6, _⟩ => ⟨S8x256, .f32⟩
  | .local .scVector .vmem, ⟨7, _⟩ => ⟨S8x256, .f32⟩
  | _, _ => ⟨S32768x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v3 : Ref sig .tc := ⟨.hbm, 5, rfl⟩
abbrev main_v5 : Ref sig .tc := ⟨.hbm, 6, rfl⟩
abbrev main_v7 : Ref sig .tc := ⟨.hbm, 7, rfl⟩
abbrev main_v9 : Ref sig .tc := ⟨.hbm, 8, rfl⟩
abbrev main_v1_scv : Ref sig .scVector := ⟨.hbm, 4, rfl⟩
abbrev main_v0_scv : Ref sig .scVector := ⟨.hbm, 3, rfl⟩
abbrev main_v3_scv : Ref sig .scVector := ⟨.hbm, 5, rfl⟩
abbrev main_v5_scv : Ref sig .scVector := ⟨.hbm, 6, rfl⟩
abbrev main_v7_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc4_stg0_0 : Ref sig .tc := ⟨.vmem, 12, rfl⟩
abbrev cc4_stg0_1 : Ref sig .tc := ⟨.vmem, 13, rfl⟩
abbrev cc4_stg1_0 : Ref sig .tc := ⟨.vmem, 14, rfl⟩
abbrev cc4_stg2_0 : Ref sig .tc := ⟨.vmem, 15, rfl⟩
abbrev cc4_stg3_0 : Ref sig .tc := ⟨.vmem, 16, rfl⟩
abbrev cc4_stg3_1 : Ref sig .tc := ⟨.vmem, 17, rfl⟩
abbrev cc6_stg0_0 : Ref sig .tc := ⟨.vmem, 18, rfl⟩
abbrev cc6_stg0_1 : Ref sig .tc := ⟨.vmem, 19, rfl⟩
abbrev cc6_stg1_0 : Ref sig .tc := ⟨.vmem, 20, rfl⟩
abbrev cc6_stg2_0 : Ref sig .tc := ⟨.vmem, 21, rfl⟩
abbrev cc6_stg3_0 : Ref sig .tc := ⟨.vmem, 22, rfl⟩
abbrev cc6_stg3_1 : Ref sig .tc := ⟨.vmem, 23, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc5_scratch0 : Ref sig .scVector := ⟨.vmem, 4, rfl⟩
abbrev cc5_scratch1 : Ref sig .scVector := ⟨.vmem, 5, rfl⟩
abbrev cc7_scratch0 : Ref sig .scVector := ⟨.vmem, 6, rfl⟩
abbrev cc7_scratch1 : Ref sig .scVector := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13
abbrev cc4_sem0_0 : DmaSem sig := 16
abbrev cc4_sem0_1 : DmaSem sig := 17
abbrev cc4_sem1_0 : DmaSem sig := 18
abbrev cc4_sem2_0 : DmaSem sig := 19
abbrev cc4_sem3_0 : DmaSem sig := 20
abbrev cc4_sem3_1 : DmaSem sig := 21
abbrev cc6_sem0_0 : DmaSem sig := 24
abbrev cc6_sem0_1 : DmaSem sig := 25
abbrev cc6_sem1_0 : DmaSem sig := 26
abbrev cc6_sem2_0 : DmaSem sig := 27
abbrev cc6_sem3_0 : DmaSem sig := 28
abbrev cc6_sem3_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let c0_i32_3_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k1_t1_loop : Scf.Loop 32 :=
  let c0_i32_0 : BitVec 32 := 0#32
  let c16_i32 : BitVec 32 := 16#32
  let v5 : BitVec 32 := Scalar.addi c0_i32_0 c16_i32
  let c1_i32 : BitVec 32 := 1#32
  ⟨c0_i32_0, v5, c1_i32⟩
def k1_off2 (k1_t1 : Fin k1_t1_loop.trips) : Fin 2 → Nat :=
  let c0_i32_4 : BitVec 32 := 0#32
  let v8 : Index := Scalar.indexCast c0_i32_4
  let c0_i32_0 : BitVec 32 := 0#32
  let c1_i32 : BitVec 32 := 1#32
  let arg7 : BitVec 32 := Scf.iv c0_i32_0 c1_i32 k1_t1
  let c16_i32_3 : BitVec 32 := 16#32
  let v7 : BitVec 32 := Scalar.muli arg7 c16_i32_3
  let v9 : Index := Scalar.indexCast v7
  ![0, v9.toNat]
def k1_off3 (k1_t1 : Fin k1_t1_loop.trips) : Fin 2 → Nat :=
  let c1_i32_6 : BitVec 32 := 1#32
  let v12 : Index := Scalar.indexCast c1_i32_6
  let c0_i32_0 : BitVec 32 := 0#32
  let c1_i32 : BitVec 32 := 1#32
  let arg7 : BitVec 32 := Scf.iv c0_i32_0 c1_i32 k1_t1
  let c16_i32_5 : BitVec 32 := 16#32
  let v11 : BitVec 32 := Scalar.muli arg7 c16_i32_5
  let v13 : Index := Scalar.indexCast v11
  ![1, v13.toNat]
def k1_off4 (k1_t1 : Fin k1_t1_loop.trips) : Fin 2 → Nat :=
  let c2_i32_8 : BitVec 32 := 2#32
  let v16 : Index := Scalar.indexCast c2_i32_8
  let c0_i32_0 : BitVec 32 := 0#32
  let c1_i32 : BitVec 32 := 1#32
  let arg7 : BitVec 32 := Scf.iv c0_i32_0 c1_i32 k1_t1
  let c16_i32_7 : BitVec 32 := 16#32
  let v15 : BitVec 32 := Scalar.muli arg7 c16_i32_7
  let v17 : Index := Scalar.indexCast v15
  ![2, v17.toNat]
def k1_off5 (k1_t1 : Fin k1_t1_loop.trips) : Fin 2 → Nat :=
  let c3_i32 : BitVec 32 := 3#32
  let v20 : Index := Scalar.indexCast c3_i32
  let c0_i32_0 : BitVec 32 := 0#32
  let c1_i32 : BitVec 32 := 1#32
  let arg7 : BitVec 32 := Scf.iv c0_i32_0 c1_i32 k1_t1
  let c16_i32_9 : BitVec 32 := 16#32
  let v19 : BitVec 32 := Scalar.muli arg7 c16_i32_9
  let v21 : Index := Scalar.indexCast v19
  ![3, v21.toNat]
def k1_off6 (k1_t1 : Fin k1_t1_loop.trips) : Fin 2 → Nat :=
  let c4_i32 : BitVec 32 := 4#32
  let v24 : Index := Scalar.indexCast c4_i32
  let c0_i32_0 : BitVec 32 := 0#32
  let c1_i32 : BitVec 32 := 1#32
  let arg7 : BitVec 32 := Scf.iv c0_i32_0 c1_i32 k1_t1
  let c16_i32_10 : BitVec 32 := 16#32
  let v23 : BitVec 32 := Scalar.muli arg7 c16_i32_10
  let v25 : Index := Scalar.indexCast v23
  ![4, v25.toNat]
def k1_off7 (k1_t1 : Fin k1_t1_loop.trips) : Fin 2 → Nat :=
  let c5_i32 : BitVec 32 := 5#32
  let v28 : Index := Scalar.indexCast c5_i32
  let c0_i32_0 : BitVec 32 := 0#32
  let c1_i32 : BitVec 32 := 1#32
  let arg7 : BitVec 32 := Scf.iv c0_i32_0 c1_i32 k1_t1
  let c16_i32_11 : BitVec 32 := 16#32
  let v27 : BitVec 32 := Scalar.muli arg7 c16_i32_11
  let v29 : Index := Scalar.indexCast v27
  ![5, v29.toNat]
def k1_off8 (k1_t1 : Fin k1_t1_loop.trips) : Fin 2 → Nat :=
  let c6_i32 : BitVec 32 := 6#32
  let v32 : Index := Scalar.indexCast c6_i32
  let c0_i32_0 : BitVec 32 := 0#32
  let c1_i32 : BitVec 32 := 1#32
  let arg7 : BitVec 32 := Scf.iv c0_i32_0 c1_i32 k1_t1
  let c16_i32_12 : BitVec 32 := 16#32
  let v31 : BitVec 32 := Scalar.muli arg7 c16_i32_12
  let v33 : Index := Scalar.indexCast v31
  ![6, v33.toNat]
def k1_off9 (k1_t1 : Fin k1_t1_loop.trips) : Fin 2 → Nat :=
  let c7_i32 : BitVec 32 := 7#32
  let v36 : Index := Scalar.indexCast c7_i32
  let c0_i32_0 : BitVec 32 := 0#32
  let c1_i32 : BitVec 32 := 1#32
  let arg7 : BitVec 32 := Scf.iv c0_i32_0 c1_i32 k1_t1
  let c16_i32_13 : BitVec 32 := 16#32
  let v35 : BitVec 32 := Scalar.muli arg7 c16_i32_13
  let v37 : Index := Scalar.indexCast v35
  ![7, v37.toNat]

def k1_chk1 (v107 : IVec S16 32) (v112 : IVec S16 32) : Prop :=
  (∀ a x, ((![v107, v112] : Fin 2 → IVec S16 32) a x).toNat < S8x256.size a)
theorem k1_idx1_inb : ∀ (v107 : IVec S16 32) (v112 : IVec S16 32) (k1_hw1 : k1_chk1 v107 v112), ∀ a x, ((![v107, v112] : Fin 2 → IVec S16 32) a x).toNat < S8x256.size a := fun v107 v112 k1_hw1 => k1_hw1
def k1_off10 (i : grid1.Coords) : Fin 2 → Nat :=
  let c0_i32_3_r1 : BitVec 32 := 0#32
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v6 : BitVec 32 := Scalar.addi c0_i32_2 v2
  ![0, v6.toNat]
abbrev grid2 : Pipeline.Grid := ⟨1, ![2], ![false]⟩

def cc2_transform_0 (i : grid2.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def k3_off1 (i : grid3.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k3_t1_loop : Scf.Loop 32 :=
  let c0_i32_0 : BitVec 32 := 0#32
  let c16_i32 : BitVec 32 := 16#32
  let v5 : BitVec 32 := Scalar.addi c0_i32_0 c16_i32
  let c1_i32 : BitVec 32 := 1#32
  ⟨c0_i32_0, v5, c1_i32⟩
def k3_off2 (k3_t1 : Fin k3_t1_loop.trips) : Fin 2 → Nat :=
  let c0_i32_3 : BitVec 32 := 0#32
  let v8 : Index := Scalar.indexCast c0_i32_3
  let c0_i32_0 : BitVec 32 := 0#32
  let c1_i32 : BitVec 32 := 1#32
  let arg7 : BitVec 32 := Scf.iv c0_i32_0 c1_i32 k3_t1
  let c16_i32_2 : BitVec 32 := 16#32
  let v7 : BitVec 32 := Scalar.muli arg7 c16_i32_2
  let v9 : Index := Scalar.indexCast v7
  ![0, v9.toNat]
def k3_off3 (k3_t1 : Fin k3_t1_loop.trips) : Fin 2 → Nat :=
  let c1_i32_5 : BitVec 32 := 1#32
  let v12 : Index := Scalar.indexCast c1_i32_5
  let c0_i32_0 : BitVec 32 := 0#32
  let c1_i32 : BitVec 32 := 1#32
  let arg7 : BitVec 32 := Scf.iv c0_i32_0 c1_i32 k3_t1
  let c16_i32_4 : BitVec 32 := 16#32
  let v11 : BitVec 32 := Scalar.muli arg7 c16_i32_4
  let v13 : Index := Scalar.indexCast v11
  ![1, v13.toNat]
def k3_off4 (k3_t1 : Fin k3_t1_loop.trips) : Fin 2 → Nat :=
  let c2_i32_7 : BitVec 32 := 2#32
  let v16 : Index := Scalar.indexCast c2_i32_7
  let c0_i32_0 : BitVec 32 := 0#32
  let c1_i32 : BitVec 32 := 1#32
  let arg7 : BitVec 32 := Scf.iv c0_i32_0 c1_i32 k3_t1
  let c16_i32_6 : BitVec 32 := 16#32
  let v15 : BitVec 32 := Scalar.muli arg7 c16_i32_6
  let v17 : Index := Scalar.indexCast v15
  ![2, v17.toNat]
def k3_off5 (k3_t1 : Fin k3_t1_loop.trips) : Fin 2 → Nat :=
  let c3_i32 : BitVec 32 := 3#32
  let v20 : Index := Scalar.indexCast c3_i32
  let c0_i32_0 : BitVec 32 := 0#32
  let c1_i32 : BitVec 32 := 1#32
  let arg7 : BitVec 32 := Scf.iv c0_i32_0 c1_i32 k3_t1
  let c16_i32_8 : BitVec 32 := 16#32
  let v19 : BitVec 32 := Scalar.muli arg7 c16_i32_8
  let v21 : Index := Scalar.indexCast v19
  ![3, v21.toNat]
def k3_off6 (k3_t1 : Fin k3_t1_loop.trips) : Fin 2 → Nat :=
  let c4_i32 : BitVec 32 := 4#32
  let v24 : Index := Scalar.indexCast c4_i32
  let c0_i32_0 : BitVec 32 := 0#32
  let c1_i32 : BitVec 32 := 1#32
  let arg7 : BitVec 32 := Scf.iv c0_i32_0 c1_i32 k3_t1
  let c16_i32_9 : BitVec 32 := 16#32
  let v23 : BitVec 32 := Scalar.muli arg7 c16_i32_9
  let v25 : Index := Scalar.indexCast v23
  ![4, v25.toNat]
def k3_off7 (k3_t1 : Fin k3_t1_loop.trips) : Fin 2 → Nat :=
  let c5_i32 : BitVec 32 := 5#32
  let v28 : Index := Scalar.indexCast c5_i32
  let c0_i32_0 : BitVec 32 := 0#32
  let c1_i32 : BitVec 32 := 1#32
  let arg7 : BitVec 32 := Scf.iv c0_i32_0 c1_i32 k3_t1
  let c16_i32_10 : BitVec 32 := 16#32
  let v27 : BitVec 32 := Scalar.muli arg7 c16_i32_10
  let v29 : Index := Scalar.indexCast v27
  ![5, v29.toNat]
def k3_off8 (k3_t1 : Fin k3_t1_loop.trips) : Fin 2 → Nat :=
  let c6_i32 : BitVec 32 := 6#32
  let v32 : Index := Scalar.indexCast c6_i32
  let c0_i32_0 : BitVec 32 := 0#32
  let c1_i32 : BitVec 32 := 1#32
  let arg7 : BitVec 32 := Scf.iv c0_i32_0 c1_i32 k3_t1
  let c16_i32_11 : BitVec 32 := 16#32
  let v31 : BitVec 32 := Scalar.muli arg7 c16_i32_11
  let v33 : Index := Scalar.indexCast v31
  ![6, v33.toNat]
def k3_off9 (k3_t1 : Fin k3_t1_loop.trips) : Fin 2 → Nat :=
  let c7_i32 : BitVec 32 := 7#32
  let v36 : Index := Scalar.indexCast c7_i32
  let c0_i32_0 : BitVec 32 := 0#32
  let c1_i32 : BitVec 32 := 1#32
  let arg7 : BitVec 32 := Scf.iv c0_i32_0 c1_i32 k3_t1
  let c16_i32_12 : BitVec 32 := 16#32
  let v35 : BitVec 32 := Scalar.muli arg7 c16_i32_12
  let v37 : Index := Scalar.indexCast v35
  ![7, v37.toNat]

def k3_chk1 (v107 : IVec S16 32) (v112 : IVec S16 32) : Prop :=
  (∀ a x, ((![v107, v112] : Fin 2 → IVec S16 32) a x).toNat < S8x256.size a)
theorem k3_idx1_inb : ∀ (v107 : IVec S16 32) (v112 : IVec S16 32) (k3_hw1 : k3_chk1 v107 v112), ∀ a x, ((![v107, v112] : Fin 2 → IVec S16 32) a x).toNat < S8x256.size a := fun v107 v112 k3_hw1 => k3_hw1
def k3_off10 (i : grid3.Coords) : Fin 2 → Nat :=
  let c0_i32_2_r1 : BitVec 32 := 0#32
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v6 : BitVec 32 := Scalar.addi c8192_i32 v2
  ![0, v6.toNat]
abbrev grid4 : Pipeline.Grid := ⟨1, ![2], ![false]⟩

def cc4_transform_0 (i : grid4.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S4096x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x768 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![2, 16], ![false, false]⟩

def k5_off1 (i : grid5.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k5_t1_loop : Scf.Loop 32 :=
  let c0_i32_0 : BitVec 32 := 0#32
  let c16_i32 : BitVec 32 := 16#32
  let v5 : BitVec 32 := Scalar.addi c0_i32_0 c16_i32
  let c1_i32 : BitVec 32 := 1#32
  ⟨c0_i32_0, v5, c1_i32⟩
def k5_off2 (k5_t1 : Fin k5_t1_loop.trips) : Fin 2 → Nat :=
  let c0_i32_3 : BitVec 32 := 0#32
  let v8 : Index := Scalar.indexCast c0_i32_3
  let c0_i32_0 : BitVec 32 := 0#32
  let c1_i32 : BitVec 32 := 1#32
  let arg7 : BitVec 32 := Scf.iv c0_i32_0 c1_i32 k5_t1
  let c16_i32_2 : BitVec 32 := 16#32
  let v7 : BitVec 32 := Scalar.muli arg7 c16_i32_2
  let v9 : Index := Scalar.indexCast v7
  ![0, v9.toNat]
def k5_off3 (k5_t1 : Fin k5_t1_loop.trips) : Fin 2 → Nat :=
  let c1_i32_5 : BitVec 32 := 1#32
  let v12 : Index := Scalar.indexCast c1_i32_5
  let c0_i32_0 : BitVec 32 := 0#32
  let c1_i32 : BitVec 32 := 1#32
  let arg7 : BitVec 32 := Scf.iv c0_i32_0 c1_i32 k5_t1
  let c16_i32_4 : BitVec 32 := 16#32
  let v11 : BitVec 32 := Scalar.muli arg7 c16_i32_4
  let v13 : Index := Scalar.indexCast v11
  ![1, v13.toNat]
def k5_off4 (k5_t1 : Fin k5_t1_loop.trips) : Fin 2 → Nat :=
  let c2_i32_7 : BitVec 32 := 2#32
  let v16 : Index := Scalar.indexCast c2_i32_7
  let c0_i32_0 : BitVec 32 := 0#32
  let c1_i32 : BitVec 32 := 1#32
  let arg7 : BitVec 32 := Scf.iv c0_i32_0 c1_i32 k5_t1
  let c16_i32_6 : BitVec 32 := 16#32
  let v15 : BitVec 32 := Scalar.muli arg7 c16_i32_6
  let v17 : Index := Scalar.indexCast v15
  ![2, v17.toNat]
def k5_off5 (k5_t1 : Fin k5_t1_loop.trips) : Fin 2 → Nat :=
  let c3_i32 : BitVec 32 := 3#32
  let v20 : Index := Scalar.indexCast c3_i32
  let c0_i32_0 : BitVec 32 := 0#32
  let c1_i32 : BitVec 32 := 1#32
  let arg7 : BitVec 32 := Scf.iv c0_i32_0 c1_i32 k5_t1
  let c16_i32_8 : BitVec 32 := 16#32
  let v19 : BitVec 32 := Scalar.muli arg7 c16_i32_8
  let v21 : Index := Scalar.indexCast v19
  ![3, v21.toNat]
def k5_off6 (k5_t1 : Fin k5_t1_loop.trips) : Fin 2 → Nat :=
  let c4_i32 : BitVec 32 := 4#32
  let v24 : Index := Scalar.indexCast c4_i32
  let c0_i32_0 : BitVec 32 := 0#32
  let c1_i32 : BitVec 32 := 1#32
  let arg7 : BitVec 32 := Scf.iv c0_i32_0 c1_i32 k5_t1
  let c16_i32_9 : BitVec 32 := 16#32
  let v23 : BitVec 32 := Scalar.muli arg7 c16_i32_9
  let v25 : Index := Scalar.indexCast v23
  ![4, v25.toNat]
def k5_off7 (k5_t1 : Fin k5_t1_loop.trips) : Fin 2 → Nat :=
  let c5_i32 : BitVec 32 := 5#32
  let v28 : Index := Scalar.indexCast c5_i32
  let c0_i32_0 : BitVec 32 := 0#32
  let c1_i32 : BitVec 32 := 1#32
  let arg7 : BitVec 32 := Scf.iv c0_i32_0 c1_i32 k5_t1
  let c16_i32_10 : BitVec 32 := 16#32
  let v27 : BitVec 32 := Scalar.muli arg7 c16_i32_10
  let v29 : Index := Scalar.indexCast v27
  ![5, v29.toNat]
def k5_off8 (k5_t1 : Fin k5_t1_loop.trips) : Fin 2 → Nat :=
  let c6_i32 : BitVec 32 := 6#32
  let v32 : Index := Scalar.indexCast c6_i32
  let c0_i32_0 : BitVec 32 := 0#32
  let c1_i32 : BitVec 32 := 1#32
  let arg7 : BitVec 32 := Scf.iv c0_i32_0 c1_i32 k5_t1
  let c16_i32_11 : BitVec 32 := 16#32
  let v31 : BitVec 32 := Scalar.muli arg7 c16_i32_11
  let v33 : Index := Scalar.indexCast v31
  ![6, v33.toNat]
def k5_off9 (k5_t1 : Fin k5_t1_loop.trips) : Fin 2 → Nat :=
  let c7_i32 : BitVec 32 := 7#32
  let v36 : Index := Scalar.indexCast c7_i32
  let c0_i32_0 : BitVec 32 := 0#32
  let c1_i32 : BitVec 32 := 1#32
  let arg7 : BitVec 32 := Scf.iv c0_i32_0 c1_i32 k5_t1
  let c16_i32_12 : BitVec 32 := 16#32
  let v35 : BitVec 32 := Scalar.muli arg7 c16_i32_12
  let v37 : Index := Scalar.indexCast v35
  ![7, v37.toNat]

def k5_chk1 (v107 : IVec S16 32) (v112 : IVec S16 32) : Prop :=
  (∀ a x, ((![v107, v112] : Fin 2 → IVec S16 32) a x).toNat < S8x256.size a)
theorem k5_idx1_inb : ∀ (v107 : IVec S16 32) (v112 : IVec S16 32) (k5_hw1 : k5_chk1 v107 v112), ∀ a x, ((![v107, v112] : Fin 2 → IVec S16 32) a x).toNat < S8x256.size a := fun v107 v112 k5_hw1 => k5_hw1
def k5_off10 (i : grid5.Coords) : Fin 2 → Nat :=
  let c0_i32_2_r1 : BitVec 32 := 0#32
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v6 : BitVec 32 := Scalar.addi c16384_i32 v2
  ![0, v6.toNat]
abbrev grid6 : Pipeline.Grid := ⟨1, ![2], ![false]⟩

def cc6_transform_0 (i : grid6.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S4096x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x768 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8x4096 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![2, 16], ![false, false]⟩

def k7_off1 (i : grid7.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![0, v2.toNat]
@[reducible] def k7_t1_loop : Scf.Loop 32 :=
  let c0_i32_0 : BitVec 32 := 0#32
  let c16_i32 : BitVec 32 := 16#32
  let v5 : BitVec 32 := Scalar.addi c0_i32_0 c16_i32
  let c1_i32 : BitVec 32 := 1#32
  ⟨c0_i32_0, v5, c1_i32⟩
def k7_off2 (k7_t1 : Fin k7_t1_loop.trips) : Fin 2 → Nat :=
  let c0_i32_3 : BitVec 32 := 0#32
  let v8 : Index := Scalar.indexCast c0_i32_3
  let c0_i32_0 : BitVec 32 := 0#32
  let c1_i32 : BitVec 32 := 1#32
  let arg7 : BitVec 32 := Scf.iv c0_i32_0 c1_i32 k7_t1
  let c16_i32_2 : BitVec 32 := 16#32
  let v7 : BitVec 32 := Scalar.muli arg7 c16_i32_2
  let v9 : Index := Scalar.indexCast v7
  ![0, v9.toNat]
def k7_off3 (k7_t1 : Fin k7_t1_loop.trips) : Fin 2 → Nat :=
  let c1_i32_5 : BitVec 32 := 1#32
  let v12 : Index := Scalar.indexCast c1_i32_5
  let c0_i32_0 : BitVec 32 := 0#32
  let c1_i32 : BitVec 32 := 1#32
  let arg7 : BitVec 32 := Scf.iv c0_i32_0 c1_i32 k7_t1
  let c16_i32_4 : BitVec 32 := 16#32
  let v11 : BitVec 32 := Scalar.muli arg7 c16_i32_4
  let v13 : Index := Scalar.indexCast v11
  ![1, v13.toNat]
def k7_off4 (k7_t1 : Fin k7_t1_loop.trips) : Fin 2 → Nat :=
  let c2_i32_7 : BitVec 32 := 2#32
  let v16 : Index := Scalar.indexCast c2_i32_7
  let c0_i32_0 : BitVec 32 := 0#32
  let c1_i32 : BitVec 32 := 1#32
  let arg7 : BitVec 32 := Scf.iv c0_i32_0 c1_i32 k7_t1
  let c16_i32_6 : BitVec 32 := 16#32
  let v15 : BitVec 32 := Scalar.muli arg7 c16_i32_6
  let v17 : Index := Scalar.indexCast v15
  ![2, v17.toNat]
def k7_off5 (k7_t1 : Fin k7_t1_loop.trips) : Fin 2 → Nat :=
  let c3_i32 : BitVec 32 := 3#32
  let v20 : Index := Scalar.indexCast c3_i32
  let c0_i32_0 : BitVec 32 := 0#32
  let c1_i32 : BitVec 32 := 1#32
  let arg7 : BitVec 32 := Scf.iv c0_i32_0 c1_i32 k7_t1
  let c16_i32_8 : BitVec 32 := 16#32
  let v19 : BitVec 32 := Scalar.muli arg7 c16_i32_8
  let v21 : Index := Scalar.indexCast v19
  ![3, v21.toNat]
def k7_off6 (k7_t1 : Fin k7_t1_loop.trips) : Fin 2 → Nat :=
  let c4_i32 : BitVec 32 := 4#32
  let v24 : Index := Scalar.indexCast c4_i32
  let c0_i32_0 : BitVec 32 := 0#32
  let c1_i32 : BitVec 32 := 1#32
  let arg7 : BitVec 32 := Scf.iv c0_i32_0 c1_i32 k7_t1
  let c16_i32_9 : BitVec 32 := 16#32
  let v23 : BitVec 32 := Scalar.muli arg7 c16_i32_9
  let v25 : Index := Scalar.indexCast v23
  ![4, v25.toNat]
def k7_off7 (k7_t1 : Fin k7_t1_loop.trips) : Fin 2 → Nat :=
  let c5_i32 : BitVec 32 := 5#32
  let v28 : Index := Scalar.indexCast c5_i32
  let c0_i32_0 : BitVec 32 := 0#32
  let c1_i32 : BitVec 32 := 1#32
  let arg7 : BitVec 32 := Scf.iv c0_i32_0 c1_i32 k7_t1
  let c16_i32_10 : BitVec 32 := 16#32
  let v27 : BitVec 32 := Scalar.muli arg7 c16_i32_10
  let v29 : Index := Scalar.indexCast v27
  ![5, v29.toNat]
def k7_off8 (k7_t1 : Fin k7_t1_loop.trips) : Fin 2 → Nat :=
  let c6_i32 : BitVec 32 := 6#32
  let v32 : Index := Scalar.indexCast c6_i32
  let c0_i32_0 : BitVec 32 := 0#32
  let c1_i32 : BitVec 32 := 1#32
  let arg7 : BitVec 32 := Scf.iv c0_i32_0 c1_i32 k7_t1
  let c16_i32_11 : BitVec 32 := 16#32
  let v31 : BitVec 32 := Scalar.muli arg7 c16_i32_11
  let v33 : Index := Scalar.indexCast v31
  ![6, v33.toNat]
def k7_off9 (k7_t1 : Fin k7_t1_loop.trips) : Fin 2 → Nat :=
  let c7_i32 : BitVec 32 := 7#32
  let v36 : Index := Scalar.indexCast c7_i32
  let c0_i32_0 : BitVec 32 := 0#32
  let c1_i32 : BitVec 32 := 1#32
  let arg7 : BitVec 32 := Scf.iv c0_i32_0 c1_i32 k7_t1
  let c16_i32_12 : BitVec 32 := 16#32
  let v35 : BitVec 32 := Scalar.muli arg7 c16_i32_12
  let v37 : Index := Scalar.indexCast v35
  ![7, v37.toNat]

def k7_chk1 (v107 : IVec S16 32) (v112 : IVec S16 32) : Prop :=
  (∀ a x, ((![v107, v112] : Fin 2 → IVec S16 32) a x).toNat < S8x256.size a)
theorem k7_idx1_inb : ∀ (v107 : IVec S16 32) (v112 : IVec S16 32) (k7_hw1 : k7_chk1 v107 v112), ∀ a x, ((![v107, v112] : Fin 2 → IVec S16 32) a x).toNat < S8x256.size a := fun v107 v112 k7_hw1 => k7_hw1
def k7_off10 (i : grid7.Coords) : Fin 2 → Nat :=
  let c0_i32_2_r1 : BitVec 32 := 0#32
  let c24576_i32 : BitVec 32 := 24576#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v6 : BitVec 32 := Scalar.addi c24576_i32 v2
  ![0, v6.toNat]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S32768x768 : Shape := ⟨2, ![32768, 768]⟩
abbrev S8x768 : Shape := ⟨2, ![8, 768]⟩
abbrev S8 : Shape := ⟨1, ![8]⟩
abbrev S768x8 : Shape := ⟨2, ![768, 8]⟩
abbrev S32768x8 : Shape := ⟨2, ![32768, 8]⟩
abbrev S1x8 : Shape := ⟨2, ![1, 8]⟩
abbrev S_ : Shape := ⟨0, ![]⟩
abbrev S32768 : Shape := ⟨1, ![32768]⟩
abbrev S32768x1 : Shape := ⟨2, ![32768, 1]⟩
abbrev S32768x1x1 : Shape := ⟨3, ![32768, 1, 1]⟩
abbrev S32768x1x2 : Shape := ⟨3, ![32768, 1, 2]⟩

abbrev nBuf : Space → Nat
  | .hbm => 46
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S8x768, .f32⟩
  | .hbm, ⟨2, _⟩ => ⟨S8, .f32⟩
  | .hbm, ⟨3, _⟩ => ⟨S768x8, .f32⟩
  | .hbm, ⟨4, _⟩ => ⟨S32768x8, .f32⟩
  | .hbm, ⟨5, _⟩ => ⟨S1x8, .f32⟩
  | .hbm, ⟨6, _⟩ => ⟨S32768x8, .f32⟩
  | .hbm, ⟨7, _⟩ => ⟨S32768x8, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x8, .f32⟩
  | .hbm, ⟨15, _⟩ => ⟨S32768x8, .f32⟩
  | .hbm, ⟨16, _⟩ => ⟨S32768x8, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x8, .f32⟩
  | .hbm, ⟨21, _⟩ => ⟨S32768x8, .f32⟩
  | .hbm, ⟨22, _⟩ => ⟨S32768x1, .f32⟩
  | .hbm, ⟨23, _⟩ => ⟨S32768x1, .i32⟩
  | .hbm, ⟨24, _⟩ => ⟨S32768, .i32⟩
  | .hbm, ⟨25, _⟩ => ⟨S32768x1, .i32⟩
  | .hbm, ⟨26, _⟩ => ⟨S_, .f32⟩
  | .hbm, ⟨27, _⟩ => ⟨S32768x8, .f32⟩
  | .hbm, ⟨28, _⟩ => ⟨S_, .i32⟩
  | .hbm, ⟨29, _⟩ => ⟨S32768x1, .i32⟩
  | .hbm, ⟨30, _⟩ => ⟨S32768x1, .i1⟩
  | .hbm, ⟨31, _⟩ => ⟨S_, .i32⟩
  | .hbm, ⟨32, _⟩ => ⟨S32768x1, .i32⟩
  | .hbm, ⟨33, _⟩ => ⟨S32768x1, .i32⟩
  | .hbm, ⟨34, _⟩ => ⟨S32768x1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S_, .i32⟩
  | .hbm, ⟨39, _⟩ => ⟨S32768x1, .i32⟩
  | .hbm, ⟨40, _⟩ => ⟨S32768x1, .i32⟩
  | .hbm, ⟨41, _⟩ => ⟨S32768x1, .i32⟩
  | .hbm, ⟨42, _⟩ => ⟨S32768x1x1, .i32⟩
  | .hbm, ⟨43, _⟩ => ⟨S32768x1x1, .i32⟩
  | .hbm, ⟨44, _⟩ => ⟨S32768x1x2, .i32⟩
  | .hbm, ⟨45, _⟩ => ⟨S32768x8, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Spec.lean ====
module

public import proofs.«01_k».proof.Defs
public import Idealize.ShloMosaic.Lib.Pointwise.Index
public import Idealize.ShloMosaic.Lib.ValueLayout
public import proofs.«01_k».proof.Proof.Gen.KernelIdeal
public import proofs.«01_k».proof.Proof.Gen.KernelIdeal.Skeleton

@[expose] public section

noncomputable section

namespace Cert.Proof.Gate

open Idealize.ShloMosaic
open Cert.KernelIdeal Cert.KernelIdeal.Gen

variable {F : FTy → Type} [FloatOps F]

/-! ## One token's routing, from its eight scores -/

/-- The largest of a token's eight scores. -/
def tokMax (c : Fin 8 → F .f32) : F .f32 :=
  FloatOps.maximumf (FloatOps.maximumf (FloatOps.maximumf (FloatOps.maximumf (FloatOps.maximumf (FloatOps.maximumf
    (FloatOps.maximumf (c 0) (c 1)) (c 2)) (c 3)) (c 4)) (c 5)) (c 6)) (c 7)

/-- Expert `e`'s word if its score is the largest, the word 8 if not. -/
def tokHit (c : Fin 8 → F .f32) (e : Fin 8) (w : BitVec 32) : BitVec 32 :=
  Scalar.select (FloatOps.cmpf .oeq (c e) (tokMax c)) w 8#32

/-- The first expert whose score is the largest (8 where none compares equal). -/
def tokArg (c : Fin 8 → F .f32) : BitVec 32 :=
  IntOp.minsi (IntOp.minsi (IntOp.minsi (IntOp.minsi (IntOp.minsi (IntOp.minsi (IntOp.minsi
    (tokHit c 0 0#32) (tokHit c 1 1#32)) (tokHit c 2 2#32)) (tokHit c 3 3#32)) (tokHit c 4 4#32)) (tokHit c 5 5#32))
    (tokHit c 6 6#32)) (tokHit c 7 7#32)

/-- Expert `e`'s exponential, the largest score taken off. -/
def tokExp (c : Fin 8 → F .f32) (e : Fin 8) : F .f32 := FloatOps.exp (FloatOps.subf (c e) (tokMax c))

/-- The sum of the eight exponentials. -/
def tokDen (c : Fin 8 → F .f32) : F .f32 :=
  FloatOps.addf (FloatOps.addf (FloatOps.addf (FloatOps.addf (FloatOps.addf (FloatOps.addf
    (FloatOps.addf (tokExp c 0) (tokExp c 1)) (tokExp c 2)) (tokExp c 3)) (tokExp c 4)) (tokExp c 5)) (tokExp c 6)) (tokExp c 7)

/-- The gate's weight of the chosen expert. -/
def tokVal (c : Fin 8 → F .f32) : F .f32 := FloatOps.divf (Scalar.ofBits .f32 0x3F800000#32) (tokDen c)

/-- Column `t` of a rank-2 array of eight rows. -/
def col {n : ℕ} (s : (⟨2, ![8, n]⟩ : Shape).Idx → F .f32) (t : Fin n) : Fin 8 → F .f32 := fun e => s (ix2 e t)

/-- The routed weights of an array of scores, one token per column: the chosen expert's weight at its row, zero elsewhere. -/
def route {n : ℕ} (s : (⟨2, ![8, n]⟩ : Shape).Idx → F .f32) : (⟨2, ![8, n]⟩ : Shape).Idx → F .f32 := fun j =>
  if (j 0).val = (tokArg (col s (j 1))).toNat then tokVal (col s (j 1)) else Scalar.ofBits .f32 0x00000000#32

/-! ## The kernel's sixteen lanes, lane by lane -/

/-- Lane `i` of the vector of expert words the kernel computes from eight rows of scores. -/
theorem lanes_arg (x : Fin 8 → Vec F S16 .f32) (i : S16.Idx) :
    k1_pay17 (x 6) (x 7) (k1_pay11 (x 4) (x 5) (x 6) (x 7) (maximumf (maximumf (maximumf (x 0) (x 1)) (x 2)) (x 3)))
        (k1_pay12 (x 0) (x 1) (x 2) (x 3) (x 4) (x 5) (x 6) (x 7) (maximumf (maximumf (maximumf (x 0) (x 1)) (x 2)) (x 3)))
        (k1_pay14 (x 4) (x 5) (x 6) (x 7) (maximumf (maximumf (maximumf (x 0) (x 1)) (x 2)) (x 3))) k1_pay15 k1_pay16 i
      = tokArg fun e => x e i := rfl

/-- Lane `i` of the vector of weights the kernel computes from eight rows of scores. -/
theorem lanes_val (x : Fin 8 → Vec F S16 .f32) (i : S16.Idx) :
    k1_pay18 (x 6) (x 7) (k1_pay11 (x 4) (x 5) (x 6) (x 7) (maximumf (maximumf (maximumf (x 0) (x 1)) (x 2)) (x 3)))
        (k1_pay13 (x 0) (x 1) (x 2) (x 3) (x 4) (x 5) (x 6) (x 7) (maximumf (maximumf (maximumf (x 0) (x 1)) (x 2)) (x 3))) i
      = tokVal fun e => x e i := rfl

/-- Lane `l` of the column words of trip `t`: column `16 t + l`. -/
theorem lanes_col (t : Fin k1_t1_loop.trips) (l : Fin 16) :
    (k1_pay19 (iota .scVector S16 32 [0] iota_S16_d0_w32_scVector) (Scf.iv 0#32 1#32 t) (ix1 l)).toNat = 16 * t.val + l.val := by
  have ht : t.val < 16 := t.isLt
  show (IntOp.addi (IntOp.muli (Scf.iv 0#32 1#32 t) 16#32) (BitVec.ofNat 32 (0 * 16 + l.val))).toNat = _
  revert t
  decide +revert

/-! ## The scatter into tile memory -/

/-- An update chain over a list none of whose members names `j` leaves `j`. -/
theorem foldl_upd_none {ι J α : Type} (P : ι → J → Prop) [∀ k j, Decidable (P k j)] (y : ι → α) (L : List ι) (g : J → α) (j : J)
    (h : ∀ k ∈ L, ¬ P k j) : L.foldl (fun g k => fun j => if P k j then y k else g j) g j = g j := by
  induction L generalizing g with
  | nil => rfl
  | cons k L ih =>
    rw [List.foldl_cons, ih _ fun k' hk' => h k' (List.mem_cons_of_mem _ hk'), if_neg (h k List.mem_cons_self)]

/-- An update chain over a list whose one member naming `j` is `k₀` puts `k₀`'s value at `j`. -/
theorem foldl_upd_one {ι J α : Type} (P : ι → J → Prop) [∀ k j, Decidable (P k j)] (y : ι → α) (L : List ι) (g : J → α) (j : J)
    (k₀ : ι) (hk₀ : k₀ ∈ L) (h₀ : P k₀ j) (h : ∀ k ∈ L, P k j → k = k₀) :
    L.foldl (fun g k => fun j => if P k j then y k else g j) g j = y k₀ := by
  induction L generalizing g with
  | nil => cases hk₀
  | cons k L ih =>
    rw [List.foldl_cons]
    by_cases hm : k₀ ∈ L
    · exact ih _ hm fun k' hk' => h k' (List.mem_cons_of_mem _ hk')
    · obtain rfl : k₀ = k := (List.mem_cons.mp hk₀).resolve_right hm
      rw [foldl_upd_none, if_pos h₀]
      intro k' hk' hp
      exact hm (h k' (List.mem_cons_of_mem _ hk') hp ▸ hk')

/-- A scatter of sixteen lanes into eight rows, lane `l` to row `a l`, column `b + l`: columns `[b, b + 16)` hold each lane's
    value at the lane's row and the rest of the array is left. -/
theorem storeIdx_cols (f : Vec F S8x256 .f32) (r c : IVec S16 32) (v : Vec F S16 .f32)
    (h : ∀ a x, ((![r, c] : Fin 2 → IVec S16 32) a x).toNat < S8x256.size a) (b : ℕ)
    (hc : ∀ l : Fin 16, (c (ix1 l)).toNat = b + l.val) (j : S8x256.Idx) :
    storeIdx f ![r, c] v (fun _ => 1#1) false h j
      = if hj : b ≤ (j 1).val ∧ (j 1).val < b + 16 then
          (if (j 0).val = (r (ix1 ⟨(j 1).val - b, by omega⟩)).toNat then v (ix1 ⟨(j 1).val - b, by omega⟩) else f j)
        else f j := by
  have hl : ∀ k : Fin 16, (Shape.ofLane k : S16.Idx) = ix1 k := fun k => by
    rw [eq_ix1 (Shape.ofLane k : S16.Idx)]; rfl
  have hP : ∀ (k : Fin 16) (j : S8x256.Idx),
      (∀ a, (j a).val = (idxAt (![r, c] : Fin 2 → IVec S16 32) h (Shape.ofLane k) a).val)
        ↔ ((j 0).val = (r (ix1 k)).toNat ∧ (j 1).val = b + k.val) := fun k j => by
    rw [Fin.forall_fin_two, ← hc k, ← hl k]; rfl
  have he : storeIdx f ![r, c] v (fun _ => 1#1) false h
      = (List.finRange 16).foldl (fun g k => fun j =>
          if (∀ a, (j a).val = (idxAt (![r, c] : Fin 2 → IVec S16 32) h (Shape.ofLane k) a).val) then v (Shape.ofLane k) else g j) f := by
    unfold storeIdx
    congr 1
    funext g k
    refine (if_pos rfl).trans (funext fun j => ?_)
    simp only [Bool.false_eq_true, if_false]
  rw [he]
  by_cases hj : b ≤ (j 1).val ∧ (j 1).val < b + 16
  · rw [dif_pos hj]
    have hjk : (j 1).val = b + ((j 1).val - b) := by omega
    by_cases h0 : (j 0).val = (r (ix1 ⟨(j 1).val - b, by omega⟩)).toNat
    · rw [if_pos h0]
      refine Eq.trans (foldl_upd_one (fun (k : Fin 16) (j : S8x256.Idx) =>
        ∀ a, (j a).val = (idxAt (![r, c] : Fin 2 → IVec S16 32) h (Shape.ofLane k) a).val) (fun k => v (Shape.ofLane k)) _ f j
        ⟨(j 1).val - b, by omega⟩ (List.mem_finRange _) ((hP _ j).mpr ⟨h0, hjk⟩) fun k _ hk => Fin.ext ?_) (congrArg v (hl _))
      have := ((hP k j).mp hk).2
      show k.val = (j 1).val - b
      omega
    · rw [if_neg h0]
      refine foldl_upd_none (fun (k : Fin 16) (j : S8x256.Idx) =>
        ∀ a, (j a).val = (idxAt (![r, c] : Fin 2 → IVec S16 32) h (Shape.ofLane k) a).val) (fun k => v (Shape.ofLane k)) _ f j fun k _ hk => h0 ?_
      obtain ⟨h1, h2⟩ := (hP k j).mp hk
      have : k = ⟨(j 1).val - b, by omega⟩ := Fin.ext (by show k.val = (j 1).val - b; omega)
      rw [← this]; exact h1
  · rw [dif_neg hj]
    refine foldl_upd_none (fun (k : Fin 16) (j : S8x256.Idx) =>
        ∀ a, (j a).val = (idxAt (![r, c] : Fin 2 → IVec S16 32) h (Shape.ofLane k) a).val) (fun k => v (Shape.ofLane k)) _ f j fun k _ hk => hj ?_
    have := ((hP k j).mp hk).2
    have := k.isLt
    omega

end Cert.Proof.Gate

end
-- ==== Proof.Base.lean ====
module

public import proofs.«01_k».proof.Proof.Spec
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshake cells are pairwise distinct and none is a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipelines' rounds, the transfers' counters -/

abbrev UH : Type := URounds (GSem nD τ sig) ℕ
abbrev UP : Type := URounds (GSem nD τ sig) Unit
abbrev UU : Type := UH × (UP × Counters)

local notation "𝕄" => MT nD τ sig (HIx 4) (Elt F) ℕ UU ℕ

abbrev EH : Emb UH (MT nD τ sig (HIx 4) (Elt F) ℕ UU ℕ) := embL

def EP : Emb UP (MT nD τ sig (HIx 4) (Elt F) ℕ UU ℕ) :=
  ((Emb.inl : Emb UP (UP × Counters)).trans (Emb.inr : Emb (UP × Counters) UU)).trans
    (uEmb (nD := nD) (τ := τ) (sig := sig) (Ix := HIx 4) (Val := Elt F) (Name := ℕ) (U := UU) (Lvl := ℕ)).toEmb

instance EP_landsIn : (EP : Emb UP 𝕄).LandsIn (upEmb : UEmb _ 𝕄) := by unfold EP; infer_instance

end Cert.Proof.Gate

end
-- ==== Proof.Trip.lean ====
module

public import proofs.«01_k».proof.Proof.Base

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-! ## Reading whole scratches and rows of them -/

/-- Read through the whole rectangle of a memref: what the memref reads. -/
theorem read_access_rect {sg : RefSig} {κ : Kind} {sp : Space} {s : Shape} {e : EltTy} (m : Memref sg κ sp s e)
    (f : m.view.ty.Contents (Elt F)) : (m.access (.whole s)).read (Elt F) f = m.view.read (Elt F) f := by
  funext x
  show m.view.read (Elt F) f ((Rect.whole s).emb x) = _
  rw [Rect.emb_whole_apply]

/-- A whole write through the whole rectangle of a memref reads back as what was written. -/
theorem read_write_rect {sg : RefSig} {κ : Kind} {sp : Space} {s : Shape} {e : EltTy} (m : Memref sg κ sp s e)
    (f : m.view.ty.Contents (Elt F)) (w : s.Idx → Elt F e) (j : s.Idx) :
    m.view.read (Elt F) ((m.access (.whole s)).write (Elt F) f w Finset.univ) j = w j := by
  have h := View.read_slice_write_emb (v := m.view) (Val := Elt F) (Rect.whole s) f w (M := Finset.univ) (Finset.mem_univ (show (Rect.whole s).shape.Idx from j))
  rw [Rect.emb_whole_apply] at h
  exact h

/-- Stores that all put the value `z` leave `z` where one of them reaches and the earlier contents elsewhere. -/
theorem read_writes_const {sg : RefSig} {κ : Kind} {sp : Space} {s : Shape} {e : EltTy} (v : View sg κ sp s e)
    (f : v.ty.Contents (Elt F)) (z : Elt F e) (L : List (View.Piece (Elt F) s e)) (hz : ∀ p ∈ L, ∀ x, p.2 x = z) (y : s.Idx) :
    v.read (Elt F) (v.writes (Elt F) f L) y = open Classical in if ∃ p ∈ L, y ∈ p.1.set then z else v.read (Elt F) f y := by
  classical
  induction L with
  | nil => simp
  | cons p L ih =>
    by_cases hy : y ∈ p.1.set
    · rw [if_pos ⟨p, List.mem_cons_self, hy⟩]
      obtain ⟨x, rfl⟩ : ∃ x, p.1.emb x = y := p.1.exists_idx_of_mem hy
      exact (View.read_writes_cons_emb v f p.1 p.2 L x).trans (hz p List.mem_cons_self x)
    · rw [View.writes_cons, View.read_slice_write_of_not_mem p.1 _ _ _ (by rwa [Rect.map_emb_univ]),
        ih fun p' hp' => hz p' (List.mem_cons_of_mem _ hp')]
      simp only [List.exists_mem_cons_iff, hy, false_or]

/-- The eight stores of zeros of trip `t`, the last first. -/
abbrev zeroRows (t : Fin k1_t1_loop.trips) : List (View.Piece (Elt F) S8x256 .f32) :=
  [⟨Rect.unit (k1_off9 t) S1x16.size (k1_off9_inb t), shapeCast S1x16 (k1_pay1 (F := F)) shapeCasts_S16_S1x16⟩,
   ⟨Rect.unit (k1_off8 t) S1x16.size (k1_off8_inb t), shapeCast S1x16 (k1_pay1 (F := F)) shapeCasts_S16_S1x16⟩,
   ⟨Rect.unit (k1_off7 t) S1x16.size (k1_off7_inb t), shapeCast S1x16 (k1_pay1 (F := F)) shapeCasts_S16_S1x16⟩,
   ⟨Rect.unit (k1_off6 t) S1x16.size (k1_off6_inb t), shapeCast S1x16 (k1_pay1 (F := F)) shapeCasts_S16_S1x16⟩,
   ⟨Rect.unit (k1_off5 t) S1x16.size (k1_off5_inb t), shapeCast S1x16 (k1_pay1 (F := F)) shapeCasts_S16_S1x16⟩,
   ⟨Rect.unit (k1_off4 t) S1x16.size (k1_off4_inb t), shapeCast S1x16 (k1_pay1 (F := F)) shapeCasts_S16_S1x16⟩,
   ⟨Rect.unit (k1_off3 t) S1x16.size (k1_off3_inb t), shapeCast S1x16 (k1_pay1 (F := F)) shapeCasts_S16_S1x16⟩,
   ⟨Rect.unit (k1_off2 t) S1x16.size (k1_off2_inb t), shapeCast S1x16 (k1_pay1 (F := F)) shapeCasts_S16_S1x16⟩]

/-- Position `y` lies in the sixteen columns of row `r` from column `16 t`. -/
theorem mem_row {off : Fin 2 → ℕ} {inb : ∀ a, off a + S1x16.size a ≤ S8x256.size a} (r c : ℕ) (h : off = ![r, c]) (y : S8x256.Idx) :
    y ∈ (Rect.unit (s := S8x256) off S1x16.size inb).set ↔ (y 0).val = r ∧ c ≤ (y 1).val ∧ (y 1).val < c + 16 := by
  subst h
  rw [Rect.mem_set_unit, Fin.forall_fin_two]
  show ((r ≤ (y 0).val ∧ (y 0).val < r + 1) ∧ (c ≤ (y 1).val ∧ (y 1).val < c + 16)) ↔ _
  omega

/-- After the eight stores of trip `t` the columns `[16 t, 16 t + 16)` are zero and the rest is left. -/
theorem read_zeroRows {sg : RefSig} {κ : Kind} {sp : Space} (v : View sg κ sp S8x256 .f32) (f : v.ty.Contents (Elt F))
    (t : Fin k1_t1_loop.trips) (y : S8x256.Idx) :
    v.read (Elt F) (v.writes (Elt F) f (zeroRows t)) y
      = if 16 * t.val ≤ (y 1).val ∧ (y 1).val < 16 * t.val + 16 then (Scalar.ofBits .f32 0x00000000#32 : F .f32) else v.read (Elt F) f y := by
  classical
  rw [read_writes_const v f (Scalar.ofBits .f32 0x00000000#32 : F .f32) (zeroRows t) (fun p hp x => by
    simp only [zeroRows, List.mem_cons, List.not_mem_nil, or_false] at hp
    rcases hp with rfl | rfl | rfl | rfl | rfl | rfl | rfl | rfl <;> rfl)]
  refine if_congr ?_ rfl rfl
  have h0 : (y 0).val < 8 := (y 0).isLt
  simp only [zeroRows, List.exists_mem_cons_iff, List.not_mem_nil, false_and, exists_false, or_false, mem_row _ _ (k1_off2_eq t), mem_row _ _ (k1_off3_eq t),
    mem_row _ _ (k1_off4_eq t), mem_row _ _ (k1_off5_eq t), mem_row _ _ (k1_off6_eq t), mem_row _ _ (k1_off7_eq t), mem_row _ _ (k1_off8_eq t),
    mem_row _ _ (k1_off9_eq t)]
  omega

/-- Lane `l` of a row of sixteen read at row `r`, column `c`. -/
theorem row_lane {sg : RefSig} {κ : Kind} {sp : Space} (v : View sg κ sp S8x256 .f32) (f : v.ty.Contents (Elt F)) {off : Fin 2 → ℕ}
    {inb : ∀ a, off a + S1x16.size a ≤ S8x256.size a} (r : Fin 8) (c : ℕ) (h : off = ![r.val, c]) (l : Fin 16) (hc : c + l.val < 256) :
    shapeCast S16 (v.readAt (Elt F) (Rect.unit (s := S8x256) off S1x16.size inb).toLoadRect f : Vec F S1x16 .f32) shapeCasts_S1x16_S16 (ix1 l)
      = v.read (Elt F) f (ix2 r ⟨c + l.val, hc⟩) := by
  subst h
  refine (ValueIdx.shapeCast_1a_a_apply _ _ l).trans ?_
  rw [View.readAt_apply]
  congr 1
  funext a
  refine Fin.ext ?_
  revert a
  rw [Fin.forall_fin_two]
  refine ⟨?_, ?_⟩
  · show r.val + 1 * 0 = r.val; omega
  · show c + 1 * l.val = c + l.val; omega

/-- A whole scratch held whole is the same held through its whole rectangle. -/
theorem pts_access {sp : Space} {s : Shape} {e : EltTy} (thr : Thread nD τ) (m : Memref sig thr.2.kind sp s e)
    (hm : m.view.set = Finset.univ) (f : Buf (Elt F) (m.view.loc thr)) :
    ((m.access (.whole s)).loc thr ↦[(m.access (.whole s)).set]{fullShare} f : sProp 𝕄) = (m.view.loc thr ↦{fullShare} f) := by
  have hset : (m.access (.whole s)).set = Finset.univ := by
    refine Eq.trans ?_ hm
    exact (View.set_slice m.view (Rect.whole s)).trans (by rw [Rect.set_whole]; rfl)
  rw [hset]

section Trip

variable (d : Dev nD) (i : grid1.Coords)
  (a2 : Memref sig .scVector .hbm S8x8192 .f32) (h2 : a2.IsWhole) (a3 : Memref sig .scVector .hbm S8x32768 .f32) (h3 : a3.IsWhole)
  (a4 : Memref sig .scVector .hbm S8x32768 .f32) (h4 : a4.IsWhole)
  (a5 : Memref sig .scVector .vmem S8x256 .f32) (h5 : a5.IsWhole) (a6 : Memref sig .scVector .vmem S8x256 .f32) (h6 : a6.IsWhole)
  (r0 r1 : DmaSems sig S_)

/-- The tile that runs coordinates `i`. -/
abbrev tileOf : Thread nD τ := V d ((i 0).castLE hcore1) ((i 1).castLE hsub1)

set_option maxHeartbeats 4000000 in
/-- One trip of the routing loop writes the routed columns `[16 t, 16 t + 16)` and leaves the others. -/
theorem trip (t : Fin k1_t1_loop.trips) (f5 : Buf (Elt F) (a5.view.loc (tileOf d i))) (f6 : Buf (Elt F) (a6.view.loc (tileOf d i)))
    (hlt : ∀ c, (tokArg (col (a5.view.read (Elt F) f5) c)).toNat < 8) :
    iprop((a5.view.loc (tileOf d i) ↦{fullShare} f5) ∗ (a6.view.loc (tileOf d i) ↦{fullShare} f6))
      ⊢ wp (M := 𝕄) frame (wpE (defs₀ (F := F)) 𝒱₀ (tileOf d i) none) Set.univ
          (k1_t1_body i a2 h2 a3 h3 a4 h4 a5 h5 a6 h6 r0 r1 (iota .scVector S16 32 [0] iota_S16_d0_w32_scVector) t ⟨⟩)
          fun _ => iprop((a5.view.loc (tileOf d i) ↦{fullShare} f5)
            ∗ ∃ f6', ⌜∀ j : S8x256.Idx, a6.view.read (Elt F) f6' j
                = if 16 * t.val ≤ (j 1).val ∧ (j 1).val < 16 * t.val + 16 then route (a5.view.read (Elt F) f5) j else a6.view.read (Elt F) f6 j⌝
              ∗ a6.view.loc (tileOf d i) ↦{fullShare} f6') := by
  have hs5 := h5.set_eq_univ
  have hs6 := h6.set_eq_univ
  unfold k1_t1_body
  simp only [k1_part1_eq_skeleton, k1_part2_eq_skeleton, k1_part3_eq_skeleton]
  unfold k1_part1_skel k1_part2_skel k1_part3_skel
  iintro ⟨H5, H6⟩
  sl_exec
  dsimp only
  have ht : t.val < 16 := t.isLt
  have hcl : ∀ l : Fin 16, 16 * t.val + l.val < 256 := fun l => by have := l.isLt; omega
  -- the eight rows the trip reads, lane by lane
  have hX : ∀ (e : Fin 8) (l : Fin 16),
      (![k1_pay2 (a5.view.readAt (Elt F) (Rect.unit (s := S8x256) (k1_off2 t) S1x16.size (k1_off2_inb t)).toLoadRect f5),
        k1_pay3 (a5.view.readAt (Elt F) (Rect.unit (s := S8x256) (k1_off3 t) S1x16.size (k1_off3_inb t)).toLoadRect f5),
        k1_pay4 (a5.view.readAt (Elt F) (Rect.unit (s := S8x256) (k1_off4 t) S1x16.size (k1_off4_inb t)).toLoadRect f5),
        k1_pay5 (a5.view.readAt (Elt F) (Rect.unit (s := S8x256) (k1_off5 t) S1x16.size (k1_off5_inb t)).toLoadRect f5),
        k1_pay6 (a5.view.readAt (Elt F) (Rect.unit (s := S8x256) (k1_off6 t) S1x16.size (k1_off6_inb t)).toLoadRect f5),
        k1_pay7 (a5.view.readAt (Elt F) (Rect.unit (s := S8x256) (k1_off7 t) S1x16.size (k1_off7_inb t)).toLoadRect f5),
        k1_pay8 (a5.view.readAt (Elt F) (Rect.unit (s := S8x256) (k1_off8 t) S1x16.size (k1_off8_inb t)).toLoadRect f5),
        k1_pay9 (a5.view.readAt (Elt F) (Rect.unit (s := S8x256) (k1_off9 t) S1x16.size (k1_off9_inb t)).toLoadRect f5)] :
          Fin 8 → Vec F S16 .f32) e (ix1 l) = col (a5.view.read (Elt F) f5) ⟨16 * t.val + l.val, hcl l⟩ e := fun e l => by
    fin_cases e
    · exact row_lane a5.view f5 0 (16 * t.val) (k1_off2_eq t) l (hcl l)
    · exact row_lane a5.view f5 1 (16 * t.val) (k1_off3_eq t) l (hcl l)
    · exact row_lane a5.view f5 2 (16 * t.val) (k1_off4_eq t) l (hcl l)
    · exact row_lane a5.view f5 3 (16 * t.val) (k1_off5_eq t) l (hcl l)
    · exact row_lane a5.view f5 4 (16 * t.val) (k1_off6_eq t) l (hcl l)
    · exact row_lane a5.view f5 5 (16 * t.val) (k1_off7_eq t) l (hcl l)
    · exact row_lane a5.view f5 6 (16 * t.val) (k1_off8_eq t) l (hcl l)
    · exact row_lane a5.view f5 7 (16 * t.val) (k1_off9_eq t) l (hcl l)
  have harg := fun l : Fin 16 => (lanes_arg _ (ix1 l)).trans (congrArg tokArg (funext fun e => hX e l))
  have hval := fun l : Fin 16 => (lanes_val _ (ix1 l)).trans (congrArg tokVal (funext fun e => hX e l))
  rw [wp_assume_of _ _ _ _ ?hchk]
  case hchk =>
    intro a x
    obtain ⟨l, rfl⟩ : ∃ l : Fin 16, x = ix1 l := ⟨x 0, eq_ix1 x⟩
    revert a
    rw [Fin.forall_fin_two]
    refine ⟨?_, ?_⟩
    · exact lt_of_eq_of_lt (congrArg BitVec.toNat (harg l)) (hlt _)
    · exact lt_of_eq_of_lt (lanes_col t l) (hcl l)
  sl_exec
  ihave H6' := (Entails.of_eq (pts_access (F := F) (tileOf d i) a6 hs6 (a6.view.writes (Elt F) f6 (zeroRows t))).symm) $$ H6
  iapply (SparseCore.wp_vectorStoreIdx 𝒱₀ (tileOf d i) none Set.univ (base := a6)) $$ H6'
  iintro H6
  ihave H6' := (Entails.of_eq (pts_access (F := F) (tileOf d i) a6 hs6 _)) $$ H6
  sl_step
  isplitl [H5]; · iexact H5
  iexists _
  isplitr
  rotate_left
  · iexact H6'
  ipureintro
  intro j
  rw [read_write_rect]
  refine (storeIdx_cols _ _ _ _ _ (16 * t.val) (lanes_col t) j).trans ?_
  by_cases hj : 16 * t.val ≤ (j 1).val ∧ (j 1).val < 16 * t.val + 16
  · rw [dif_pos hj, if_pos hj]
    have hl : (⟨16 * t.val + ((j 1).val - 16 * t.val), by omega⟩ : Fin 256) = j 1 := Fin.ext (by show 16 * t.val + ((j 1).val - 16 * t.val) = (j 1).val; omega)
    unfold route
    refine if_congr ?_ ?_ ?_
    · refine Eq.congr_right ?_
      refine (congrArg BitVec.toNat (harg _)).trans ?_
      rw [hl]
    · refine (hval _).trans ?_
      rw [hl]
    · rw [read_access_rect]
      exact (read_zeroRows a6.view f6 t j).trans (if_pos hj)
  · rw [dif_neg hj, if_neg hj, read_access_rect]
    exact (read_zeroRows a6.view f6 t j).trans (if_neg hj)

end Trip

end Cert.Proof.Gate

end
-- ==== Proof.Tile.lean ====
module

public import proofs.«01_k».proof.Proof.Trip

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

section Tile

/-! ## The four routing programs are one text, at four places of the result -/

/-- The routing program of one tile, whose columns of the result begin where `off` says. -/
def routing (i : grid1.Coords) (off : Fin 2 → ℕ) (inb : ∀ a, off a + S8x256.size a ≤ S8x32768.size a)
    (a2 : Memref sig .scVector .hbm S8x8192 .f32) (h2 : a2.IsWhole) (a3 : Memref sig .scVector .hbm S8x32768 .f32) (h3 : a3.IsWhole)
    (a4 : Memref sig .scVector .hbm S8x32768 .f32) (h4 : a4.IsWhole)
    (a5 : Memref sig .scVector .vmem S8x256 .f32) (h5 : a5.IsWhole) (a6 : Memref sig .scVector .vmem S8x256 .f32) (h6 : a6.IsWhole)
    (r0 r1 : DmaSems sig S_) : Prog (TpuEff nD τ sig (Elt F) Λ₀ (.scVector ((i 0).castLE hcore1) ((i 1).castLE hsub1))) PUnit := do
  let s2 : Memref sig .scVector .hbm S8x256 .f32 := a2.slice (Rect.unit (s := S8x8192) (k1_off1 i) S8x256.size (k1_off1_inb i)) (fun _ => rfl)
  Prog.lift (.enqueueDma s2 (.here a5) (.dma r0.sem) (View.wordExact_bits rfl) h5.wordExact ⟨Or.inl rfl, trivial⟩)
  Prog.lift (.waitDma2 r0.sem s2 a5 (View.wordExact_bits rfl) h5.wordExact)
  Scf.Loop.for k1_t1_loop k1_t1_ok ⟨⟩ (k1_t1_body i a2 h2 a3 h3 a4 h4 a5 h5 a6 h6 r0 r1 (iota .scVector S16 32 [0] iota_S16_d0_w32_scVector))
  let s3 : Memref sig .scVector .hbm S8x256 .f32 := a3.slice (Rect.unit (s := S8x32768) off S8x256.size inb) (fun _ => rfl)
  Prog.lift (.enqueueDma a6 (.here s3) (.dma r1.sem) h6.wordExact (View.wordExact_bits rfl) ⟨Or.inl rfl, trivial⟩)
  Prog.lift (.waitDma2 r1.sem a6 s3 h6.wordExact (View.wordExact_bits rfl))
  pure ⟨⟩

set_option maxRecDepth 65536

theorem cc1_eq (i : grid1.Coords) : cc1__routing_kernel (F := F) i = routing i (k1_off10 i) (k1_off10_inb i) := by
  rw [cc1__routing_kernel_eq_skeleton]; rfl
theorem cc3_eq (i : grid1.Coords) : cc3__routing_kernel (F := F) i = routing i (k3_off10 i) (k3_off10_inb i) := by
  rw [cc3__routing_kernel_eq_skeleton]; rfl
theorem cc5_eq (i : grid1.Coords) : cc5__routing_kernel (F := F) i = routing i (k5_off10 i) (k5_off10_inb i) := by
  rw [cc5__routing_kernel_eq_skeleton]; rfl
theorem cc7_eq (i : grid1.Coords) : cc7__routing_kernel (F := F) i = routing i (k7_off10 i) (k7_off10_inb i) := by
  rw [cc7__routing_kernel_eq_skeleton]; rfl

/-! ## A tile's run: copy its columns in, route them, copy them out -/

section Body

variable (d : Dev nD) (i : grid1.Coords) (off : Fin 2 → ℕ) (inb : ∀ a, off a + S8x256.size a ≤ S8x32768.size a)
  (a2 : Memref sig .scVector .hbm S8x8192 .f32) (h2 : a2.IsWhole) (a3 : Memref sig .scVector .hbm S8x32768 .f32) (h3 : a3.IsWhole)
  (a4 : Memref sig .scVector .hbm S8x32768 .f32) (h4 : a4.IsWhole)
  (a5 : Memref sig .scVector .vmem S8x256 .f32) (h5 : a5.IsWhole) (a6 : Memref sig .scVector .vmem S8x256 .f32) (h6 : a6.IsWhole)
  (r0 r1 : DmaSems sig S_)

/-- The tile's columns of the scores. -/
abbrev inPart : Memref sig .scVector .hbm S8x256 .f32 := a2.slice (Rect.unit (s := S8x8192) (k1_off1 i) S8x256.size (k1_off1_inb i)) (fun _ => rfl)
/-- The tile's columns of the result. -/
abbrev outPart : Memref sig .scVector .hbm S8x256 .f32 := a3.slice (Rect.unit (s := S8x32768) off S8x256.size inb) (fun _ => rfl)

/-- Before trip `k`: the fetched scores, and the columns below `16 k` routed. -/
def routed (f5 : Buf (Elt F) (a5.view.loc (tileOf d i))) (k : ℕ) (_ : PUnit) : sProp 𝕄 :=
  iprop((a5.view.loc (tileOf d i) ↦{fullShare} f5)
    ∗ ∃ f6, ⌜∀ j : S8x256.Idx, (j 1).val < 16 * k → a6.view.read (Elt F) f6 j = route (a5.view.read (Elt F) f5) j⌝
      ∗ a6.view.loc (tileOf d i) ↦{fullShare} f6)

/-- One trip carries the invariant on. -/
theorem routed_trip (t : Fin k1_t1_loop.trips) (f5 : Buf (Elt F) (a5.view.loc (tileOf d i)))
    (hlt : ∀ c, (tokArg (col (a5.view.read (Elt F) f5) c)).toNat < 8) :
    routed d i a5 a6 f5 t.val ⟨⟩
      ⊢ wp (M := 𝕄) frame (wpE (defs₀ (F := F)) 𝒱₀ (tileOf d i) none) Set.univ
          (k1_t1_body i a2 h2 a3 h3 a4 h4 a5 h5 a6 h6 r0 r1 (iota .scVector S16 32 [0] iota_S16_d0_w32_scVector) t ⟨⟩)
          fun _ => routed d i a5 a6 f5 (t.val + 1) ⟨⟩ := by
  unfold routed
  iintro ⟨H5, %f6, %hf6, H6⟩
  have hh := (trip d i a2 h2 a3 h3 a4 h4 a5 h5 a6 h6 r0 r1 t f5 f6 hlt).trans (wp_mono frame _ _ fun _ =>
    show _ ⊢ (iprop((a5.view.loc (tileOf d i) ↦{fullShare} f5)
      ∗ ∃ f6, ⌜∀ j : S8x256.Idx, (j 1).val < 16 * (t.val + 1) → a6.view.read (Elt F) f6 j = route (a5.view.read (Elt F) f5) j⌝
        ∗ a6.view.loc (tileOf d i) ↦{fullShare} f6) : sProp 𝕄) from by
      iintro ⟨H5, %f6', %hf, H6⟩
      isplitl [H5]; · iexact H5
      iexists f6'; isplitr
      · ipureintro
        intro j hj
        rw [hf j]
        by_cases hc : 16 * t.val ≤ (j 1).val ∧ (j 1).val < 16 * t.val + 16
        · rw [if_pos hc]
        · rw [if_neg hc]; exact hf6 j (by omega)
      · iexact H6)
  iapply hh
  isplitl [H5] <;> iassumption

set_option maxHeartbeats 1000000 in
/-- A tile that owns its columns of the scores and of the result leaves the routed columns in the result. -/
theorem routing_body (O : CellTallies nD τ sig (HIx 4)) (W : Waits sig (HIx 4)) (hO : ∀ g, O g none = 0)
    (fs : Buf (Elt F) ((inPart i a2).view.loc (tileOf d i))) (hlt : ∀ c, (tokArg (col ((inPart i a2).view.read (Elt F) fs) c)).toNat < 8)
    (fo : Buf (Elt F) ((outPart off inb a3).view.loc (tileOf d i)))
    (f5 : Buf (Elt F) (a5.view.loc (tileOf d i))) (f6 : Buf (Elt F) (a6.view.loc (tileOf d i))) :
    iprop(levAts (K (F := F)).L (K (F := F)).lev
        ∗ ((inPart i a2).view.loc (tileOf d i) ↦[(inPart i a2).view.set]{fullShare} fs)
        ∗ ((outPart off inb a3).view.loc (tileOf d i) ↦[(outPart off inb a3).view.set]{fullShare} fo)
        ∗ (a5.view.loc (tileOf d i) ↦{fullShare} f5) ∗ (a6.view.loc (tileOf d i) ↦{fullShare} f6)
        ∗ semVal (tileOf d i, SemLoc.dma r0.sem) 0 ∗ semVal (tileOf d i, SemLoc.dma r1.sem) 0 ∗ owes (tileOf d i) O W)
      ⊢ wp (M := 𝕄) frame (wpE (defs₀ (F := F)) 𝒱₀ (tileOf d i) none) Set.univ
          (routing i off inb a2 h2 a3 h3 a4 h4 a5 h5 a6 h6 r0 r1)
          fun _ => iprop(((inPart i a2).view.loc (tileOf d i) ↦[(inPart i a2).view.set]{fullShare} fs)
            ∗ (∃ fo', ⌜(outPart off inb a3).view.read (Elt F) fo' = route ((inPart i a2).view.read (Elt F) fs)⌝
                ∗ (outPart off inb a3).view.loc (tileOf d i) ↦[(outPart off inb a3).view.set]{fullShare} fo')
            ∗ (∃ f5, a5.view.loc (tileOf d i) ↦{fullShare} f5) ∗ (∃ f6, a6.view.loc (tileOf d i) ↦{fullShare} f6)
            ∗ semVal (tileOf d i, SemLoc.dma r0.sem) 0 ∗ semVal (tileOf d i, SemLoc.dma r1.sem) 0
            ∗ ∃ W', ⌜∀ p ∈ W', p ∈ W ∨ p.2 = none⌝ ∗ owes (tileOf d i) O W') := by
  have hs5 := h5.set_eq_univ
  have hs6 := h6.set_eq_univ
  unfold routing
  iintro ⟨#Hlv, Hs, Ho, H5, H6, Hr0, Hr1, HO⟩
  ihave Hmw := (show levAts (K (F := F)).L (K (F := F)).lev ⊢ Transfers.MayWaits (tileOf d i) (default : HIx 4) O from
    (K (F := F)).mayWaits_none (thr := tileOf d i) hO) $$ Hlv
  sl_exec
  generalize hg : View.write (Elt F) a5.view f5 (routing_body.sl.dma0 d i a2 fs) Finset.univ = g5
  have hr5 : a5.view.read (Elt F) g5 = (inPart i a2).view.read (Elt F) fs := by
    rw [← hg]; exact View.read_write_univ _ _
  sl_for (routed d i a5 a6 g5) $$ [H5 H6]
  case region =>
    intro t _
    exact routed_trip d i a2 h2 a3 h3 a4 h4 a5 h5 a6 h6 r0 r1 t g5 (by rw [hr5]; exact hlt)
  · unfold routed
    isplitl [H5]; · iexact H5
    iexists f6; isplitr
    · ipureintro; intro j hj; omega
    · iexact H6
  iintro %_ HI
  unfold routed
  icases HI with ⟨H5, %g6, %hg6, H6⟩
  have h6r : a6.view.read (Elt F) g6 = route ((inPart i a2).view.read (Elt F) fs) := by
    funext j
    have hj : (j 1).val < 16 * k1_t1_loop.trips := (j 1).isLt
    rw [hg6 j hj, hr5]
  clear hg6
  sl_exec
  sl_step
  isplitl [Hs]; · iexact Hs
  isplitl [Ho]
  · iexists _; isplitr
    swap; · iexact Ho
    ipureintro
    refine Eq.trans ?_ h6r
    funext j
    have h := View.read_writes_cons_emb (outPart off inb a3).view fo (Rect.whole S8x256) (a6.view.read (Elt F) g6) [] j
    rw [Rect.emb_whole_apply] at h
    exact h
  isplitl [H5]; · iexists _; iexact H5
  isplitl [H6]; · iexists _; iexact H6
  isplitl [Hr0]; · iexact Hr0
  isplitl [Hr1]; · iexact Hr1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Body

end Tile

end Cert.Proof.Gate

end
-- ==== Proof.Launch.lean ====
module

public import proofs.«01_k».proof.Proof.Tile

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-! ## Column blocks, and the values the four calls leave -/

/-- Block `w` of 256 columns. -/
def colSet {n : ℕ} (w : ℕ) : Finset (⟨2, ![8, n]⟩ : Shape).Idx := Finset.univ.filter fun j => (j 1).val / 256 = w

abbrev sSet (w : ℕ) : Finset S8x8192.Idx := colSet w
abbrev oSet (w : ℕ) : Finset S8x32768.Idx := colSet w

theorem mem_colSet {n w : ℕ} {j : (⟨2, ![8, n]⟩ : Shape).Idx} : j ∈ colSet w ↔ (j 1).val / 256 = w := by simp [colSet]

abbrev oLoc (d : Dev nD) : Loc nD τ sig := (SparseCore.T d).loc main_v0
abbrev s0Loc (d : Dev nD) : Loc nD τ sig := (SparseCore.T d).loc main_v1
abbrev s1Loc (d : Dev nD) : Loc nD τ sig := (SparseCore.T d).loc main_v3
abbrev s2Loc (d : Dev nD) : Loc nD τ sig := (SparseCore.T d).loc main_v5
abbrev s3Loc (d : Dev nD) : Loc nD τ sig := (SparseCore.T d).loc main_v7

/-- The scores of the four chunks of tokens, expert by token. -/
abbrev Scores (F : FTy → Type) : Type := Fin 4 → Dev nD → (S8x8192.Idx → F .f32)

variable (sv : Scores F)

/-- The routed array, expert by token: each chunk routed from its scores. -/
def gv (d : Dev nD) : S8x32768.Idx → F .f32 := fun j =>
  route (sv ⟨(j 1).val / 8192, by have : (j 1).val < 32768 := (j 1).isLt; omega⟩ d) (ix2 (j 0) ⟨(j 1).val % 8192, by omega⟩)

/-- What the proof asks of the scores: every token has an expert that reaches the maximum. -/
def HitOK : Prop := ∀ q d c, (tokArg (col (sv q d) c)).toNat < 8

/-- The scores of call `q` on the positions `S`. -/
def sPts (q : Fin 4) (d : Dev nD) (S : Finset S8x8192.Idx) : sProp 𝕄 :=
  match q with
  | 0 => s0Loc d ↦[S]{fullShare} sv 0 d
  | 1 => s1Loc d ↦[S]{fullShare} sv 1 d
  | 2 => s2Loc d ↦[S]{fullShare} sv 2 d
  | 3 => s3Loc d ↦[S]{fullShare} sv 3 d

/-- What the tile `(c, i)` of call `q` is handed: its columns of the scores, its columns of the result. -/
def goAt (q : Fin 4) (d : Dev nD) (c i : ℕ) : sProp 𝕄 :=
  iprop(sPts sv q d (sSet (2 * i + c)) ∗ ∃ f, oLoc d ↦[oSet (32 * q.val + 2 * i + c)]{fullShare} f)

/-- What it hands back: its columns of the result are routed. -/
def tdAt (q : Fin 4) (d : Dev nD) (c i : ℕ) : sProp 𝕄 :=
  iprop(sPts sv q d (sSet (2 * i + c)) ∗ oLoc d ↦[oSet (32 * q.val + 2 * i + c)]{fullShare} gv sv d)

instance sPts_storable (q : Fin 4) (d : Dev nD) (S : Finset S8x8192.Idx) : BI.Storable (upEmb : UEmb _ 𝕄) (sPts sv q d S) := by
  match q with
  | 0 => exact (inferInstance : BI.Storable (upEmb : UEmb _ 𝕄) (s0Loc d ↦[S]{fullShare} sv 0 d))
  | 1 => exact (inferInstance : BI.Storable (upEmb : UEmb _ 𝕄) (s1Loc d ↦[S]{fullShare} sv 1 d))
  | 2 => exact (inferInstance : BI.Storable (upEmb : UEmb _ 𝕄) (s2Loc d ↦[S]{fullShare} sv 2 d))
  | 3 => exact (inferInstance : BI.Storable (upEmb : UEmb _ 𝕄) (s3Loc d ↦[S]{fullShare} sv 3 d))

instance goAt_storable (q : Fin 4) (d : Dev nD) (c i : ℕ) : BI.Storable (upEmb : UEmb _ 𝕄) (goAt sv q d c i) := by unfold goAt; infer_instance
instance tdAt_storable (q : Fin 4) (d : Dev nD) (c i : ℕ) : BI.Storable (upEmb : UEmb _ 𝕄) (tdAt sv q d c i) := by unfold tdAt; infer_instance

/-- What the handshakes of the four calls carry. -/
def P : (K (F := F)).Pay (nD := nD) (Val := Elt F) (Name := ℕ) (U := UU) where
  st := fun q d c => bigSep Finset.univ fun i : Fin ((K (F := F)).nSub q) => goAt sv q d c.val i.val
  dn := fun q d c => bigSep Finset.univ fun i : Fin ((K (F := F)).nSub q) => tdAt sv q d c.val i.val
  go := fun q d c i => goAt sv q d c.val i.val
  td := fun q d c i => tdAt sv q d c.val i.val
  x := fun _ _ => iprop(emp)

instance P_storable : (P (F := F) sv).IsStorable where
  st q d c := (inferInstance : BI.Storable (upEmb : UEmb _ 𝕄) (bigSep Finset.univ fun i : Fin ((K (F := F)).nSub q) => goAt sv q d c.val i.val))
  dn q d c := (inferInstance : BI.Storable (upEmb : UEmb _ 𝕄) (bigSep Finset.univ fun i : Fin ((K (F := F)).nSub q) => tdAt sv q d c.val i.val))
  go q d c i := goAt_storable sv q d c.val i.val
  td q d c i := tdAt_storable sv q d c.val i.val

theorem vecSplit (q : Fin 4) : (K (F := F)).VecSplit' (P sv) q := by
  intro d c
  show (bigSep Finset.univ fun i : Fin ((K (F := F)).nSub q) => goAt sv q d c.val i.val) ⊢ |={Set.univ}=> iprop(
    (bigSep Finset.univ fun i : Fin ((K (F := F)).nSub q) => goAt sv q d c.val i.val)
      ∗ ((bigSep Finset.univ fun i : Fin ((K (F := F)).nSub q) => tdAt sv q d c.val i.val)
        -∗ bigSep Finset.univ fun i : Fin ((K (F := F)).nSub q) => tdAt sv q d c.val i.val))
  iintro H; imodintro
  isplitl [H]; · iexact H
  iintro H; iexact H

/-! ## A tile's own semaphores and scratches -/

/-- Two of a tile's semaphores, taken out of its own. -/
theorem ownSems0_two (d : Dev nD) (c : Fin τ.nSC) (s : Fin τ.nSub) (l0 l1 : SemLoc sig) (h0 : l0.isScoped .scVector = true)
    (h1 : l1.isScoped .scVector = true) (h : l1 ≠ l0) :
    (ownSems0 (V d c s) : sProp 𝕄)
      = iprop(semVal (V d c s, l0) 0 ∗ semVal (V d c s, l1) 0
          ∗ bigSep (((ownCells (V d c s)).erase (V d c s, l0)).erase (V d c s, l1)) fun g => semVal g 0) := by
  unfold SparseCore.Cfg.ownSems0
  rw [SparseCore.bigSep_erase' ((mem_ownCells (g := ((V d c s, l0) : GSem nD τ sig))).mpr ⟨rfl, h0⟩),
    SparseCore.bigSep_erase' (Finset.mem_erase.mpr ⟨fun e => h (Prod.ext_iff.mp e).2,
      (mem_ownCells (g := ((V d c s, l1) : GSem nD τ sig))).mpr ⟨rfl, h1⟩⟩)]

/-- Two of a tile's scratches, taken out of its own. -/
theorem ownBufs_two (d : Dev nD) (c : Fin τ.nSC) (s : Fin τ.nSub) (b0 b1 : Ref sig .scVector)
    (h0 : ((Proc.scVector c s : Proc τ).devRef b0).owner = .proc (.scVector c s))
    (h1 : ((Proc.scVector c s : Proc τ).devRef b1).owner = .proc (.scVector c s)) (h : b1 ≠ b0) :
    (ownBufs (V d c s) : sProp 𝕄)
      = iprop((∃ f, (V d c s).loc b0 ↦{fullShare} f) ∗ (∃ f, (V d c s).loc b1 ↦{fullShare} f)
          ∗ bigSep (((ownRefs (τ := τ) (.scVector c s)).erase ((Proc.scVector c s).devRef b0)).erase ((Proc.scVector c s).devRef b1))
              fun b => iprop(∃ f, ((d, b) : Loc nD τ sig) ↦{fullShare} f)) := by
  unfold SparseCore.Cfg.ownBufs
  refine (SparseCore.bigSep_erase' (SparseCore.Cfg.mem_ownRefs_of_owner (p := Proc.scVector c s) h0)).trans ?_
  rw [SparseCore.bigSep_erase' (Finset.mem_erase.mpr ⟨fun e => h (Proc.devRef_injective _ e),
    SparseCore.Cfg.mem_ownRefs_of_owner (p := Proc.scVector c s) h1⟩)]

/-! ## A tile's task -/

section Task

variable (d : Dev nD) (i : grid1.Coords)

/-- The result as a tile addresses it. -/
abbrev oV : Memref sig .scVector .hbm S8x32768 .f32 := Memref.whole main_v0_scv

theorem coords_lt : (i 0).val < 2 ∧ (i 1).val < 16 := ⟨(i 0).isLt, (i 1).isLt⟩

/-- A rectangle of 256 columns and all rows, `256 w` on, is block `w`. -/
theorem set_block {n : ℕ} (off : Fin 2 → ℕ) (inb : ∀ a, off a + S8x256.size a ≤ (⟨2, ![8, n]⟩ : Shape).size a) (w : ℕ) (h : off = ![0, 256 * w]) :
    (Rect.unit (s := (⟨2, ![8, n]⟩ : Shape)) off S8x256.size inb).set = colSet w := by
  subst h
  ext j
  rw [Rect.mem_set_unit, mem_colSet, Fin.forall_fin_two]
  have h0 : (j 0).val < 8 := (j 0).isLt
  show ((0 ≤ (j 0).val ∧ (j 0).val < 0 + 8) ∧ (256 * w ≤ (j 1).val ∧ (j 1).val < 256 * w + 256)) ↔ _
  omega

/-- Position `(e, t)` of such a rectangle is row `e`, column `256 w + t`. -/
theorem emb_block {n : ℕ} (off : Fin 2 → ℕ) (inb : ∀ a, off a + S8x256.size a ≤ (⟨2, ![8, n]⟩ : Shape).size a) (w : ℕ) (h : off = ![0, 256 * w])
    (j : S8x256.Idx) (hw : 256 * w + (j 1).val < n) :
    (Rect.unit (s := (⟨2, ![8, n]⟩ : Shape)) off S8x256.size inb).emb j = ix2 (j 0) ⟨256 * w + (j 1).val, hw⟩ := by
  subst h
  funext a
  refine Fin.ext ?_
  revert a
  rw [Fin.forall_fin_two]
  refine ⟨?_, ?_⟩
  · show 0 + 1 * (j 0).val = (j 0).val; omega
  · show 256 * w + 1 * (j 1).val = 256 * w + (j 1).val; omega

theorem off1_block : k1_off1 i = ![0, 256 * (2 * (i 1).val + (i 0).val)] := by
  rw [k1_off1_eq, show 512 * (i 1).val + 256 * (i 0).val = 256 * (2 * (i 1).val + (i 0).val) by omega]

/-- The tile's columns of the scores, as an index of the chunk. -/
abbrev inIdx (j : S8x256.Idx) : S8x8192.Idx :=
  ix2 (j 0) ⟨256 * (2 * (i 1).val + (i 0).val) + (j 1).val, by
    have := coords_lt i; have : (j 1).val < 256 := (j 1).isLt; omega⟩

/-- Routing a tile's columns is the tile's columns of the routed array. -/
theorem gv_block (q : Fin 4) (j : S8x256.Idx) (h : 256 * (32 * q.val + 2 * (i 1).val + (i 0).val) + (j 1).val < 32768) :
    gv sv d (ix2 (j 0) ⟨256 * (32 * q.val + 2 * (i 1).val + (i 0).val) + (j 1).val, h⟩) = route (fun j => sv q d (inIdx i j)) j := by
  have hc := coords_lt i
  have hj : (j 1).val < 256 := (j 1).isLt
  have hq : (⟨(256 * (32 * q.val + 2 * (i 1).val + (i 0).val) + (j 1).val) / 8192, by omega⟩ : Fin 4) = q := Fin.ext (by
    show (256 * (32 * q.val + 2 * (i 1).val + (i 0).val) + (j 1).val) / 8192 = q.val; omega)
  have ht : (⟨(256 * (32 * q.val + 2 * (i 1).val + (i 0).val) + (j 1).val) % 8192, by omega⟩ : Fin 8192)
      = ⟨256 * (2 * (i 1).val + (i 0).val) + (j 1).val, by omega⟩ := Fin.ext (by
    show (256 * (32 * q.val + 2 * (i 1).val + (i 0).val) + (j 1).val) % 8192 = 256 * (2 * (i 1).val + (i 0).val) + (j 1).val; omega)
  show route (sv ⟨(256 * (32 * q.val + 2 * (i 1).val + (i 0).val) + (j 1).val) / 8192, _⟩ d)
    (ix2 (j 0) ⟨(256 * (32 * q.val + 2 * (i 1).val + (i 0).val) + (j 1).val) % 8192, _⟩) = _
  rw [hq, ht]
  rfl

variable (off : Fin 2 → ℕ) (inb : ∀ a, off a + S8x256.size a ≤ S8x32768.size a)

theorem set_out (w : ℕ) (h : off = ![0, 256 * w]) : (outPart off inb oV).view.set = oSet w := by
  show ((View.whole (main_v0_scv : Ref sig .scVector)).slice (Rect.unit (s := S8x32768) off S8x256.size inb)).set = _
  rw [View.set_slice]
  exact (Finset.map_refl).trans (set_block off inb w h)

theorem out_pts (w : ℕ) (h : off = ![0, 256 * w]) (f : Buf (Elt F) (oLoc d)) :
    ((outPart off inb oV).view.loc (tileOf d i) ↦[(outPart off inb oV).view.set]{fullShare} f : sProp 𝕄) = oLoc d ↦[oSet w]{fullShare} f := by
  rw [set_out off inb w h]

theorem out_read (w : ℕ) (h : off = ![0, 256 * w]) (f : Buf (Elt F) (oLoc d)) (j : S8x256.Idx) (hw : 256 * w + (j 1).val < 32768) :
    (outPart off inb oV).view.read (Elt F) f j = (f : S8x32768.Idx → F .f32) (ix2 (j 0) ⟨256 * w + (j 1).val, hw⟩) := by
  refine (View.read_apply _ _).trans ((cast_eq _ _).trans ?_)
  exact congrArg (f : S8x32768.Idx → F .f32) (emb_block off inb w h j hw)

/-- Any contents that read, through the tile's columns, as the routed scores are the routed array on those columns. -/
theorem out_routed (q : Fin 4) (h : off = ![0, 256 * (32 * q.val + 2 * (i 1).val + (i 0).val)]) (f : Buf (Elt F) (oLoc d))
    (hf : (outPart off inb oV).view.read (Elt F) f = route (fun j => sv q d (inIdx i j))) :
    (oLoc d ↦[oSet (32 * q.val + 2 * (i 1).val + (i 0).val)]{fullShare} f : sProp 𝕄)
      = oLoc d ↦[oSet (32 * q.val + 2 * (i 1).val + (i 0).val)]{fullShare} gv sv d := by
  refine pointsTo_congr fun j hj => ?_
  have hc := coords_lt i
  have hj' : (j 1).val / 256 = 32 * q.val + 2 * (i 1).val + (i 0).val := mem_colSet.mp hj
  have hw : 256 * (32 * q.val + 2 * (i 1).val + (i 0).val) + (j 1).val % 256 < 32768 := by have := q.isLt; omega
  have he : (ix2 (j 0) ⟨256 * (32 * q.val + 2 * (i 1).val + (i 0).val) + (j 1).val % 256, hw⟩ : S8x32768.Idx) = j := by
    funext a; refine Fin.ext ?_; revert a; rw [Fin.forall_fin_two]
    refine ⟨rfl, ?_⟩
    show 256 * (32 * q.val + 2 * (i 1).val + (i 0).val) + (j 1).val % 256 = (j 1).val
    omega
  have h1 := out_read d off inb _ h f (ix2 (j 0) ⟨(j 1).val % 256, by omega⟩) hw
  have h2 := gv_block sv d i q (ix2 (j 0) ⟨(j 1).val % 256, by omega⟩) hw
  rw [hf] at h1
  exact (congrArg f he).symm.trans (h1.symm.trans (h2.symm.trans (congrArg (gv sv d) he)))

end Task

end Cert.Proof.Gate

end
-- ==== Proof.Region.lean ====
module

public import proofs.«01_k».proof.Proof.Launch
public import proofs.«01_k».proof.Proof.Gen.KernelIdeal.Points
public import proofs.«01_k».proof.Proof.Gen.KernelIdeal.Launch
public import Idealize.ShloMosaic.Lib.Pipeline.RegionsLoop
public import Idealize.ShloMosaic.Lib.Pipeline.ValueKit

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation BodyObligationLoose)

variable {F : FTy → Type} [FloatOps F]

local notation "𝕄" => MT nD τ sig (HIx 4) (Elt F) ℕ UU ℕ

/-! ## The scores kernel's body on its staging buffers -/

/-- The scores of one block of tokens, expert by token. -/
abbrev blkScores (x : S4096x768.Idx → F .f32) (w : S8x768.Idx → F .f32) (b : S8.Idx → F .f32) : S8x4096.Idx → F .f32 := k0_pay1 x w b

section Body

variable (c : Dev nD) (i : grid0.Coords) (M0 : Memref sig .tc .vmem S4096x768 .f32) (h0 : M0.IsWhole) (M1 : Memref sig .tc .vmem S8x768 .f32) (h1 : M1.IsWhole)
  (M2 : Memref sig .tc .vmem S8 .f32) (h2 : M2.IsWhole) (M3 : Memref sig .tc .vmem S8x4096 .f32) (h3 : M3.IsWhole)

/-- The body reads the tokens, the weights and the bias and leaves the block's scores. -/
theorem scores_body (X0 : S4096x768.Idx → F .f32) (X1 : S8x768.Idx → F .f32) (X2 : S8.Idx → F .f32) {α0 α1 α2 α3 : Type}
    (g0 : α0 → S4096x768.Idx → F .f32) (g1 : α1 → S8x768.Idx → F .f32) (g2 : α2 → S8.Idx → F .f32) (g3 : α3 → S8x4096.Idx → F .f32)
    (e0 : ∀ a, g0 a = X0) (e1 : ∀ a, g1 a = X1) (e2 : ∀ a, g2 a = X2) (A B : sProp 𝕄) :
    iprop(A ∗ B ∗ (∃ a, owns (c : Thread nD τ) M0 fullShare (g0 a)) ∗ (∃ a, owns (c : Thread nD τ) M1 fullShare (g1 a))
        ∗ (∃ a, owns (c : Thread nD τ) M2 fullShare (g2 a)) ∗ (∃ a, owns (c : Thread nD τ) M3 fullShare (g3 a)))
      ⊢ wp (M := 𝕄) frame (wpE (defs₀ (F := F)) 𝒱₀ (c : Thread nD τ) none) Set.univ (cc0__scores_kernel i M0 h0 M1 h1 M2 h2 M3 h3)
          fun _ => iprop(A ∗ B ∗ owns (c : Thread nD τ) M0 fullShare X0 ∗ owns (c : Thread nD τ) M1 fullShare X1
            ∗ owns (c : Thread nD τ) M2 fullShare X2 ∗ owns (c : Thread nD τ) M3 fullShare (blkScores X0 X1 X2)) := by
  rw [cc0__scores_kernel_eq_skeleton]
  unfold owns cc0__scores_kernel_skel
  simp only [h0.set_eq_univ, h1.set_eq_univ, h2.set_eq_univ, h3.set_eq_univ]
  iintro ⟨HA, HB, ⟨%a0, %f0, %hf0, H0⟩, ⟨%a1, %f1, %hf1, H1⟩, ⟨%a2, %f2, %hf2, H2⟩, ⟨%a3, %f3, %hf3, H3⟩⟩
  rw [e0] at hf0
  rw [e1] at hf1
  rw [e2] at hf2
  sl_exec!
  sl_step
  isplitl [HA]; · iexact HA
  isplitl [HB]; · iexact HB
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  iexists _
  isplitr
  swap
  · iexact H3
  ipureintro
  subst hf0 hf1 hf2
  rw [View.read_writes_junk_eq_canon]
  sl_unfold_words
  have z1 : (![0] : Fin 1 → ℕ) = fun _ => 0 := by decide
  have z2 : (![0, 0] : Fin 2 → ℕ) = fun _ => 0 := by decide
  simp only [View.readAt_eq_ld]
  erw [View.canon_unit_zero z2, View.ld_unit_zero z2, View.ld_unit_zero z2, View.ld_unit_zero z1]

end Body

/-! ## The four pipelines' proof data, from the buffers' contents `V` at the launch -/

variable (V : (c : Dev nD) → (b : Ref sig .tc) → Buf (Elt F) ((c : Thread nD τ).loc b))

/-- What the core may have waited on when chunk `p` is started. -/
def waited (c : Dev nD) (p : ℕ) : Set (SemLoc sig × HIx 4) := {x | (K (F := F)).lev (SparseCore.T c, x.1) x.2 ≤ 8 * SparseCore.Cfg.Blocks.fst 4 4 p}

/-- The scoped buffers chunk `p`'s pipeline does not stage in. -/
@[irreducible] def restOf (p : Fin 4) (c : Dev nD) : sProp 𝕄 := Pipeline.scopedRest (pcfgs (F := F) p).spec c

def dat0 (c : Dev nD) : Dat τ (Elt F) (HIx 4) ℕ UU ℕ cfg0 c where
  A w := V c (Pipeline.arrRef spec0 w)
  after w t := match w with
    | ⟨0, _⟩ => (((cfg0.win 0).blk t).view.read (Elt F) (V c (Pipeline.arrRef spec0 0)) : S4096x768.Idx → F .f32)
    | ⟨1, _⟩ => (((cfg0.win 1).blk t0_0).view.read (Elt F) (V c (Pipeline.arrRef spec0 1)) : S8x768.Idx → F .f32)
    | ⟨2, _⟩ => (((cfg0.win 2).blk t0_0).view.read (Elt F) (V c (Pipeline.arrRef spec0 2)) : S8.Idx → F .f32)
    | ⟨3, _⟩ => blkScores (((cfg0.win 0).blk t).view.read (Elt F) (V c (Pipeline.arrRef spec0 0)))
        (((cfg0.win 1).blk t0_0).view.read (Elt F) (V c (Pipeline.arrRef spec0 1))) (((cfg0.win 2).blk t0_0).view.read (Elt F) (V c (Pipeline.arrRef spec0 2)))
  Φ _ := restOf (F := F) 0 c
  q _ := fullShare
  owed _ := (K (F := F)).Otc c 0
  recorded _ := waited (F := F) c 0

theorem body0 (c : Dev nD) : BodyObligation (dat0 V c) (defs₀ (F := F)) 𝒱₀ (none : HIx 4) Set.univ := fun t => by
  rw [bigSep_W0, bigSep_W0]
  refine scores_body c (grid0.coords t) _ (stage_whole0 0 _) _ (stage_whole0 1 _) _ (stage_whole0 2 _) _ (stage_whole0 3 _) _ _ _ _ _ _ _ (fun d => (dat0 V c).before_fetched 0 t (fetch0_0 t) d) ?_ ?_ _ _
  · intro d
    rcases fin_N0 t with rfl | rfl
    · exact (dat0 V c).before_fetched 1 _ ((fetch0_1 _).mpr rfl) d
    · exact (dat0 V c).before_unfetched_in 1 rfl _ (by decide +kernel) (fun _ => rfl) d
  · intro d
    rcases fin_N0 t with rfl | rfl
    · exact (dat0 V c).before_fetched 2 _ ((fetch0_2 _).mpr rfl) d
    · exact (dat0 V c).before_unfetched_in 2 rfl _ (by decide +kernel) (fun _ => rfl) d

def dat2 (c : Dev nD) : Dat τ (Elt F) (HIx 4) ℕ UU ℕ cfg2 c where
  A w := V c (Pipeline.arrRef spec2 w)
  after w t := match w with
    | ⟨0, _⟩ => (((cfg2.win 0).blk t).view.read (Elt F) (V c (Pipeline.arrRef spec2 0)) : S4096x768.Idx → F .f32)
    | ⟨1, _⟩ => (((cfg2.win 1).blk t2_0).view.read (Elt F) (V c (Pipeline.arrRef spec2 1)) : S8x768.Idx → F .f32)
    | ⟨2, _⟩ => (((cfg2.win 2).blk t2_0).view.read (Elt F) (V c (Pipeline.arrRef spec2 2)) : S8.Idx → F .f32)
    | ⟨3, _⟩ => blkScores (((cfg2.win 0).blk t).view.read (Elt F) (V c (Pipeline.arrRef spec2 0)))
        (((cfg2.win 1).blk t2_0).view.read (Elt F) (V c (Pipeline.arrRef spec2 1))) (((cfg2.win 2).blk t2_0).view.read (Elt F) (V c (Pipeline.arrRef spec2 2)))
  Φ _ := restOf (F := F) 1 c
  q _ := fullShare
  owed _ := (K (F := F)).Otc c 1
  recorded _ := waited (F := F) c 1

theorem body2 (c : Dev nD) : BodyObligation (dat2 V c) (defs₀ (F := F)) 𝒱₀ (none : HIx 4) Set.univ := fun t => by
  rw [bigSep_W2, bigSep_W2]
  refine scores_body c (grid2.coords t) _ (stage_whole2 0 _) _ (stage_whole2 1 _) _ (stage_whole2 2 _) _ (stage_whole2 3 _) _ _ _ _ _ _ _ (fun d => (dat2 V c).before_fetched 0 t (fetch2_0 t) d) ?_ ?_ _ _
  · intro d
    rcases fin_N2 t with rfl | rfl
    · exact (dat2 V c).before_fetched 1 _ ((fetch2_1 _).mpr rfl) d
    · exact (dat2 V c).before_unfetched_in 1 rfl _ (by decide +kernel) (fun _ => rfl) d
  · intro d
    rcases fin_N2 t with rfl | rfl
    · exact (dat2 V c).before_fetched 2 _ ((fetch2_2 _).mpr rfl) d
    · exact (dat2 V c).before_unfetched_in 2 rfl _ (by decide +kernel) (fun _ => rfl) d

def dat4 (c : Dev nD) : Dat τ (Elt F) (HIx 4) ℕ UU ℕ cfg4 c where
  A w := V c (Pipeline.arrRef spec4 w)
  after w t := match w with
    | ⟨0, _⟩ => (((cfg4.win 0).blk t).view.read (Elt F) (V c (Pipeline.arrRef spec4 0)) : S4096x768.Idx → F .f32)
    | ⟨1, _⟩ => (((cfg4.win 1).blk t4_0).view.read (Elt F) (V c (Pipeline.arrRef spec4 1)) : S8x768.Idx → F .f32)
    | ⟨2, _⟩ => (((cfg4.win 2).blk t4_0).view.read (Elt F) (V c (Pipeline.arrRef spec4 2)) : S8.Idx → F .f32)
    | ⟨3, _⟩ => blkScores (((cfg4.win 0).blk t).view.read (Elt F) (V c (Pipeline.arrRef spec4 0)))
        (((cfg4.win 1).blk t4_0).view.read (Elt F) (V c (Pipeline.arrRef spec4 1))) (((cfg4.win 2).blk t4_0).view.read (Elt F) (V c (Pipeline.arrRef spec4 2)))
  Φ _ := restOf (F := F) 2 c
  q _ := fullShare
  owed _ := (K (F := F)).Otc c 2
  recorded _ := waited (F := F) c 2

theorem body4 (c : Dev nD) : BodyObligation (dat4 V c) (defs₀ (F := F)) 𝒱₀ (none : HIx 4) Set.univ := fun t => by
  rw [bigSep_W4, bigSep_W4]
  refine scores_body c (grid4.coords t) _ (stage_whole4 0 _) _ (stage_whole4 1 _) _ (stage_whole4 2 _) _ (stage_whole4 3 _) _ _ _ _ _ _ _ (fun d => (dat4 V c).before_fetched 0 t (fetch4_0 t) d) ?_ ?_ _ _
  · intro d
    rcases fin_N4 t with rfl | rfl
    · exact (dat4 V c).before_fetched 1 _ ((fetch4_1 _).mpr rfl) d
    · exact (dat4 V c).before_unfetched_in 1 rfl _ (by decide +kernel) (fun _ => rfl) d
  · intro d
    rcases fin_N4 t with rfl | rfl
    · exact (dat4 V c).before_fetched 2 _ ((fetch4_2 _).mpr rfl) d
    · exact (dat4 V c).before_unfetched_in 2 rfl _ (by decide +kernel) (fun _ => rfl) d

def dat6 (c : Dev nD) : Dat τ (Elt F) (HIx 4) ℕ UU ℕ cfg6 c where
  A w := V c (Pipeline.arrRef spec6 w)
  after w t := match w with
    | ⟨0, _⟩ => (((cfg6.win 0).blk t).view.read (Elt F) (V c (Pipeline.arrRef spec6 0)) : S4096x768.Idx → F .f32)
    | ⟨1, _⟩ => (((cfg6.win 1).blk t6_0).view.read (Elt F) (V c (Pipeline.arrRef spec6 1)) : S8x768.Idx → F .f32)
    | ⟨2, _⟩ => (((cfg6.win 2).blk t6_0).view.read (Elt F) (V c (Pipeline.arrRef spec6 2)) : S8.Idx → F .f32)
    | ⟨3, _⟩ => blkScores (((cfg6.win 0).blk t).view.read (Elt F) (V c (Pipeline.arrRef spec6 0)))
        (((cfg6.win 1).blk t6_0).view.read (Elt F) (V c (Pipeline.arrRef spec6 1))) (((cfg6.win 2).blk t6_0).view.read (Elt F) (V c (Pipeline.arrRef spec6 2)))
  Φ _ := restOf (F := F) 3 c
  q _ := fullShare
  owed _ := (K (F := F)).Otc c 3
  recorded _ := waited (F := F) c 3

theorem body6 (c : Dev nD) : BodyObligation (dat6 V c) (defs₀ (F := F)) 𝒱₀ (none : HIx 4) Set.univ := fun t => by
  rw [bigSep_W6, bigSep_W6]
  refine scores_body c (grid6.coords t) _ (stage_whole6 0 _) _ (stage_whole6 1 _) _ (stage_whole6 2 _) _ (stage_whole6 3 _) _ _ _ _ _ _ _ (fun d => (dat6 V c).before_fetched 0 t (fetch6_0 t) d) ?_ ?_ _ _
  · intro d
    rcases fin_N6 t with rfl | rfl
    · exact (dat6 V c).before_fetched 1 _ ((fetch6_1 _).mpr rfl) d
    · exact (dat6 V c).before_unfetched_in 1 rfl _ (by decide +kernel) (fun _ => rfl) d
  · intro d
    rcases fin_N6 t with rfl | rfl
    · exact (dat6 V c).before_fetched 2 _ ((fetch6_2 _).mpr rfl) d
    · exact (dat6 V c).before_unfetched_in 2 rfl _ (by decide +kernel) (fun _ => rfl) d

/-! ## The four regions over the thread state -/

abbrev adm : (p : Fin 4) → (pcfgs (F := F) p).Adm := fun p => (cfgs p).toPCfg_adm

def pdats : (p : Fin 4) → (c : Dev nD) → Dat τ (Elt F) (HIx 4) ℕ UU ℕ (Pipeline.pin (pcfgs (F := F)) adm p) c
  | ⟨0, _⟩ => fun c => dat0 V c
  | ⟨1, _⟩ => fun c => dat2 V c
  | ⟨2, _⟩ => fun c => dat4 V c
  | ⟨3, _⟩ => fun c => dat6 V c

theorem launches : (p : Fin 4) → Pipeline.LaunchFacts (nD := nD) (τ := τ) cfgs p
  | ⟨0, _⟩ => launch0
  | ⟨1, _⟩ => launch2
  | ⟨2, _⟩ => launch4
  | ⟨3, _⟩ => launch6

theorem bodies : ∀ (p : Fin 4) (c : Dev nD), BodyObligation (pdats V p c) (defs₀ (F := F)) 𝒱₀ (none : HIx 4) Set.univ
  | ⟨0, _⟩, c => body0 V c
  | ⟨1, _⟩, c => body2 V c
  | ⟨2, _⟩, c => body4 V c
  | ⟨3, _⟩, c => body6 V c

theorem pdats_owed : ∀ (p : Fin 4) (c : Dev nD) t, (pdats V p c).owed t = (K (F := F)).Otc c p.val
  | ⟨0, _⟩, _, _ | ⟨1, _⟩, _, _ | ⟨2, _⟩, _, _ | ⟨3, _⟩, _, _ => rfl

theorem pdats_recorded : ∀ (p : Fin 4) (c : Dev nD) t, (pdats V p c).recorded t = waited (F := F) c p.val
  | ⟨0, _⟩, _, _ | ⟨1, _⟩, _, _ | ⟨2, _⟩, _, _ | ⟨3, _⟩, _, _ => rfl

theorem pdats_Φ (p : Fin 4) (c : Dev nD) : (pdats V p c).Φ = fun _ => restOf (F := F) p c := by
  match p with
  | ⟨0, _⟩ => rfl
  | ⟨1, _⟩ => rfl
  | ⟨2, _⟩ => rfl
  | ⟨3, _⟩ => rfl

theorem pdats_q : ∀ (p : Fin 4) (c : Dev nD) w, (pdats V p c).q w = fullShare
  | ⟨0, _⟩, _, _ | ⟨1, _⟩, _, _ | ⟨2, _⟩, _, _ | ⟨3, _⟩, _, _ => rfl

/-- What the core owes before call `n`, with what it has waited on so far. -/
abbrev tcOwes (c : Dev nD) (n : ℕ) : sProp 𝕄 :=
  iprop(∃ W, ⌜(K (F := F)).WBelow (SparseCore.T c) W (8 * SparseCore.Cfg.Blocks.fst 4 4 n)⌝ ∗ owes (SparseCore.T c : Thread nD τ) ((K (F := F)).Otc c n) W)

set_option backward.isDefEq.respectTransparency.types false in
/-- Chunk `p`'s region: the windows' arrays, and what the core owes, which it leaves as it was. -/
def seg (p : Fin 4) : Pipeline.RegionSeg (pcfgs (F := F)) adm (pdats V) (none : HIx 4) defs₀ 𝒱₀ (K (F := F)).L (K (F := F)).lev p where
  win := (launches p).win.to₀
  block_pos := (launches p).block_pos
  stage_whole := (launches p).stage_whole
  K := PEmpty
  osem k := k.elim
  ho := Pipeline.OwnSemFacts.none _
  hbody c := (bodies V p c).loose
  hwaits c := Pipeline.cellsWaits_of_cut (Pipeline.pin (pcfgs (F := F)) adm) (pdats V) (none : HIx 4) p c 0 ((K (F := F)).Otc c p.val)
    (pdats_owed V p c) (fun _ _ => Finset.mem_univ _) (fun _ _ => le_refl 0) (fun g i h => ⟨Finset.mem_univ _, by have := (K (F := F)).lev_of_Otc_pos h; omega⟩)
  pre c := iprop((pdats V p c).arrays ((pdats V p c).arrAt · 0) ∗ tcOwes c p.val)
  post c := iprop((pdats V p c).arrays ((pdats V p c).arrAt · (Pipeline.pin (pcfgs (F := F)) adm p).N) ∗ tcOwes c p.val)
  X _ := BI.emp
  Y _ := BI.emp
  Z _ := BI.emp
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [pdats_owed V p c 0, pdats_recorded V p c 0]
      icases HO with ⟨%W, %hW, HO⟩; iexists W; isplitr; · ipureintro; exact fun x hx => Or.inl (hW x hx)
      iexact HO
    isplitr <;> iempintro
  hin c := by
    rw [pdats_Φ V p c]
    unfold restOf
    iintro ⟨-, -, Hr⟩; iexact Hr
  hout c := by
    rw [Pipeline.ownSems0_none, pdats_Φ V p c]
    unfold restOf
    iintro Hr
    isplitr; · iempintro
    isplitr; · iempintro
    iexact Hr
  hexit c := by
    iintro ⟨Ha, HO, -, -⟩
    imodintro
    isplitl [Ha]; · iexact Ha
    unfold Pipeline.Dat.owesAt Pipeline.owesWithin Pipeline.Dat.bound
    rw [pdats_owed V p c (Fin.last _), pdats_recorded V p c (Fin.last _)]
    icases HO with ⟨%W, %hW, HO⟩; iexists W; isplitr
    · ipureintro
      intro x hx
      rcases hW hx with h | ⟨w, s, rfl⟩
      · exact h
      · exact Nat.zero_le _
    iexact HO

/-! ## What the regions leave -/

/-- Chunk `q`'s scores, expert by token, as the host's arrays give them. -/
def scoreOf (x : S32768x768.Idx → F .f32) (w : S8x768.Idx → F .f32) (b : S8.Idx → F .f32) (q : Fin 4) : S8x8192.Idx → F .f32 := fun j =>
  blkScores (fun y => x (ix2 ⟨8192 * q.val + 4096 * ((j 1).val / 4096) + (y 0).val, by
      have h0 : (y 0).val < 4096 := (y 0).isLt
      have h1 : (j 1).val < 8192 := (j 1).isLt
      have := q.isLt
      omega⟩ (y 1))) w b
    (ix2 (j 0) ⟨(j 1).val % 4096, Nat.mod_lt _ (by decide)⟩)

/-- Every chunk's scores. -/
def svOf : Scores F := fun q d => scoreOf (V d main_arg0) (V d main_arg1) (V d main_arg2) q

/-- A block's scores are the chunk's at the block's columns. -/
theorem scores_block (x : S32768x768.Idx → F .f32) (w : S8x768.Idx → F .f32) (b : S8.Idx → F .f32) (q : Fin 4) (X0 : S4096x768.Idx → F .f32)
    (t : ℕ) (y : S8x4096.Idx) (j : S8x8192.Idx) (hj0 : (j 0).val = (y 0).val) (hj1 : (j 1).val = t * 4096 + (y 1).val)
    (hX : ∀ (z : S4096x768.Idx) (i : S32768x768.Idx), (i 0).val = (2 * q.val + t) * 4096 + (z 0).val → (i 1).val = (z 1).val → X0 z = x i) :
    blkScores X0 w b y = scoreOf x w b q j := by
  have hy : (y 1).val < 4096 := (y 1).isLt
  unfold scoreOf
  have e1 : X0 = fun z => x (ix2 ⟨8192 * q.val + 4096 * ((j 1).val / 4096) + (z 0).val, by
      have h0 : (z 0).val < 4096 := (z 0).isLt
      have h1 : (j 1).val < 8192 := (j 1).isLt
      have := q.isLt
      omega⟩ (z 1)) := by
    funext z
    refine hX z _ ?_ rfl
    show 8192 * q.val + 4096 * ((j 1).val / 4096) + (z 0).val = _
    omega
  have e2 : y = ix2 (j 0) ⟨(j 1).val % 4096, Nat.mod_lt _ (by decide)⟩ := by
    funext a
    match a with
    | ⟨0, _⟩ => exact Fin.ext hj0.symm
    | ⟨1, _⟩ => exact Fin.ext (show (y 1).val = (j 1).val % 4096 by omega)
  rw [← e1]
  exact congrArg (blkScores X0 w b) e2

theorem idx0 : ∀ t : Fin grid0.N, win0_0.index t 0 = 2 * 0 + t.val ∧ win0_0.index t 1 = 0 ∧ win0_3.index t 0 = 0 ∧ win0_3.index t 1 = t.val := by
  decide +kernel

theorem out0 (c : Dev nD) : (dat0 V c).arrAt 3 cfg0.N = svOf V 0 c := by
  refine (dat0 V c).arrAt_eq_of_covers 3 _ (by decide +kernel) fun t hf y => ?_
  obtain ⟨i0, i1, i2, i3⟩ := idx0 t
  have h1 : ((cfg0.win 1).blk t0_0).view.read (Elt F) (V c (Pipeline.arrRef spec0 1)) = V c main_arg1 := by
    funext z
    exact congrArg (V c main_arg1) (funext fun a => Fin.ext (win0_1.rect_emb_val_of_index_zero t0_0 a (by revert a; decide +kernel) z))
  have h2 : ((cfg0.win 2).blk t0_0).view.read (Elt F) (V c (Pipeline.arrRef spec0 2)) = V c main_arg2 := by
    funext z
    exact congrArg (V c main_arg2) (funext fun a => Fin.ext (win0_2.rect_emb_val_of_index_zero t0_0 a (by revert a; decide +kernel) z))
  refine Eq.trans ?_ (scores_block (V c main_arg0) (V c main_arg1) (V c main_arg2) 0 (((cfg0.win 0).blk t).view.read (Elt F) (V c (Pipeline.arrRef spec0 0)))
    t.val y _ ?_ ?_ ?_)
  · show blkScores _ _ _ y = _
    rw [h1, h2]
  · exact win0_3.rect_emb_val_of_index_zero t 0 i2 y
  · exact (win0_3.rect_emb_val t y 1).trans (by rw [i3]; rfl)
  · intro z i hi0 hi1
    refine congrArg (V c main_arg0) (funext fun a => Fin.ext ?_)
    match a with
    | ⟨0, _⟩ => exact ((win0_0.rect_emb_val t z 0).trans (by rw [i0]; rfl)).trans hi0.symm
    | ⟨1, _⟩ => exact (win0_0.rect_emb_val_of_index_zero t 1 i1 z).trans hi1.symm

theorem arrays0 (c : Dev nD) (n : ℕ) : ((pdats V 0 c).arrays ((pdats V 0 c).arrAt · n) : sProp 𝕄)
    = iprop(((c : Thread nD τ).loc main_arg0 ↦{fullShare} V c main_arg0) ∗ ((c : Thread nD τ).loc main_arg1 ↦{fullShare} V c main_arg1)
      ∗ ((c : Thread nD τ).loc main_arg2 ↦{fullShare} V c main_arg2) ∗ s0Loc c ↦{fullShare} (dat0 V c).arrAt 3 n) := by
  rw [Pipeline.arrays_eq (Pipeline.pin (pcfgs (F := F)) adm) (pdats V) 0 c launch0.arr_whole ((pdats V 0 c).share_full (pdats_q V 0 c))]
  refine (bigSep_W0 _).trans ?_
  rw [(pdats V 0 c).arrAt_in 0 rfl n, (pdats V 0 c).arrAt_in 1 rfl n, (pdats V 0 c).arrAt_in 2 rfl n]
  rfl

theorem idx2 : ∀ t : Fin grid2.N, win2_0.index t 0 = 2 * 1 + t.val ∧ win2_0.index t 1 = 0 ∧ win2_3.index t 0 = 0 ∧ win2_3.index t 1 = t.val := by
  decide +kernel

theorem out2 (c : Dev nD) : (dat2 V c).arrAt 3 cfg2.N = svOf V 1 c := by
  refine (dat2 V c).arrAt_eq_of_covers 3 _ (by decide +kernel) fun t hf y => ?_
  obtain ⟨i0, i1, i2, i3⟩ := idx2 t
  have h1 : ((cfg2.win 1).blk t2_0).view.read (Elt F) (V c (Pipeline.arrRef spec2 1)) = V c main_arg1 := by
    funext z
    exact congrArg (V c main_arg1) (funext fun a => Fin.ext (win2_1.rect_emb_val_of_index_zero t2_0 a (by revert a; decide +kernel) z))
  have h2 : ((cfg2.win 2).blk t2_0).view.read (Elt F) (V c (Pipeline.arrRef spec2 2)) = V c main_arg2 := by
    funext z
    exact congrArg (V c main_arg2) (funext fun a => Fin.ext (win2_2.rect_emb_val_of_index_zero t2_0 a (by revert a; decide +kernel) z))
  refine Eq.trans ?_ (scores_block (V c main_arg0) (V c main_arg1) (V c main_arg2) 1 (((cfg2.win 0).blk t).view.read (Elt F) (V c (Pipeline.arrRef spec2 0)))
    t.val y _ ?_ ?_ ?_)
  · show blkScores _ _ _ y = _
    rw [h1, h2]
  · exact win2_3.rect_emb_val_of_index_zero t 0 i2 y
  · exact (win2_3.rect_emb_val t y 1).trans (by rw [i3]; rfl)
  · intro z i hi0 hi1
    refine congrArg (V c main_arg0) (funext fun a => Fin.ext ?_)
    match a with
    | ⟨0, _⟩ => exact ((win2_0.rect_emb_val t z 0).trans (by rw [i0]; rfl)).trans hi0.symm
    | ⟨1, _⟩ => exact (win2_0.rect_emb_val_of_index_zero t 1 i1 z).trans hi1.symm

theorem arrays2 (c : Dev nD) (n : ℕ) : ((pdats V 1 c).arrays ((pdats V 1 c).arrAt · n) : sProp 𝕄)
    = iprop(((c : Thread nD τ).loc main_arg0 ↦{fullShare} V c main_arg0) ∗ ((c : Thread nD τ).loc main_arg1 ↦{fullShare} V c main_arg1)
      ∗ ((c : Thread nD τ).loc main_arg2 ↦{fullShare} V c main_arg2) ∗ s1Loc c ↦{fullShare} (dat2 V c).arrAt 3 n) := by
  rw [Pipeline.arrays_eq (Pipeline.pin (pcfgs (F := F)) adm) (pdats V) 1 c launch2.arr_whole ((pdats V 1 c).share_full (pdats_q V 1 c))]
  refine (bigSep_W2 _).trans ?_
  rw [(pdats V 1 c).arrAt_in 0 rfl n, (pdats V 1 c).arrAt_in 1 rfl n, (pdats V 1 c).arrAt_in 2 rfl n]
  rfl

theorem idx4 : ∀ t : Fin grid4.N, win4_0.index t 0 = 2 * 2 + t.val ∧ win4_0.index t 1 = 0 ∧ win4_3.index t 0 = 0 ∧ win4_3.index t 1 = t.val := by
  decide +kernel

theorem out4 (c : Dev nD) : (dat4 V c).arrAt 3 cfg4.N = svOf V 2 c := by
  refine (dat4 V c).arrAt_eq_of_covers 3 _ (by decide +kernel) fun t hf y => ?_
  obtain ⟨i0, i1, i2, i3⟩ := idx4 t
  have h1 : ((cfg4.win 1).blk t4_0).view.read (Elt F) (V c (Pipeline.arrRef spec4 1)) = V c main_arg1 := by
    funext z
    exact congrArg (V c main_arg1) (funext fun a => Fin.ext (win4_1.rect_emb_val_of_index_zero t4_0 a (by revert a; decide +kernel) z))
  have h2 : ((cfg4.win 2).blk t4_0).view.read (Elt F) (V c (Pipeline.arrRef spec4 2)) = V c main_arg2 := by
    funext z
    exact congrArg (V c main_arg2) (funext fun a => Fin.ext (win4_2.rect_emb_val_of_index_zero t4_0 a (by revert a; decide +kernel) z))
  refine Eq.trans ?_ (scores_block (V c main_arg0) (V c main_arg1) (V c main_arg2) 2 (((cfg4.win 0).blk t).view.read (Elt F) (V c (Pipeline.arrRef spec4 0)))
    t.val y _ ?_ ?_ ?_)
  · show blkScores _ _ _ y = _
    rw [h1, h2]
  · exact win4_3.rect_emb_val_of_index_zero t 0 i2 y
  · exact (win4_3.rect_emb_val t y 1).trans (by rw [i3]; rfl)
  · intro z i hi0 hi1
    refine congrArg (V c main_arg0) (funext fun a => Fin.ext ?_)
    match a with
    | ⟨0, _⟩ => exact ((win4_0.rect_emb_val t z 0).trans (by rw [i0]; rfl)).trans hi0.symm
    | ⟨1, _⟩ => exact (win4_0.rect_emb_val_of_index_zero t 1 i1 z).trans hi1.symm

theorem arrays4 (c : Dev nD) (n : ℕ) : ((pdats V 2 c).arrays ((pdats V 2 c).arrAt · n) : sProp 𝕄)
    = iprop(((c : Thread nD τ).loc main_arg0 ↦{fullShare} V c main_arg0) ∗ ((c : Thread nD τ).loc main_arg1 ↦{fullShare} V c main_arg1)
      ∗ ((c : Thread nD τ).loc main_arg2 ↦{fullShare} V c main_arg2) ∗ s2Loc c ↦{fullShare} (dat4 V c).arrAt 3 n) := by
  rw [Pipeline.arrays_eq (Pipeline.pin (pcfgs (F := F)) adm) (pdats V) 2 c launch4.arr_whole ((pdats V 2 c).share_full (pdats_q V 2 c))]
  refine (bigSep_W4 _).trans ?_
  rw [(pdats V 2 c).arrAt_in 0 rfl n, (pdats V 2 c).arrAt_in 1 rfl n, (pdats V 2 c).arrAt_in 2 rfl n]
  rfl

theorem idx6 : ∀ t : Fin grid6.N, win6_0.index t 0 = 2 * 3 + t.val ∧ win6_0.index t 1 = 0 ∧ win6_3.index t 0 = 0 ∧ win6_3.index t 1 = t.val := by
  decide +kernel

theorem out6 (c : Dev nD) : (dat6 V c).arrAt 3 cfg6.N = svOf V 3 c := by
  refine (dat6 V c).arrAt_eq_of_covers 3 _ (by decide +kernel) fun t hf y => ?_
  obtain ⟨i0, i1, i2, i3⟩ := idx6 t
  have h1 : ((cfg6.win 1).blk t6_0).view.read (Elt F) (V c (Pipeline.arrRef spec6 1)) = V c main_arg1 := by
    funext z
    exact congrArg (V c main_arg1) (funext fun a => Fin.ext (win6_1.rect_emb_val_of_index_zero t6_0 a (by revert a; decide +kernel) z))
  have h2 : ((cfg6.win 2).blk t6_0).view.read (Elt F) (V c (Pipeline.arrRef spec6 2)) = V c main_arg2 := by
    funext z
    exact congrArg (V c main_arg2) (funext fun a => Fin.ext (win6_2.rect_emb_val_of_index_zero t6_0 a (by revert a; decide +kernel) z))
  refine Eq.trans ?_ (scores_block (V c main_arg0) (V c main_arg1) (V c main_arg2) 3 (((cfg6.win 0).blk t).view.read (Elt F) (V c (Pipeline.arrRef spec6 0)))
    t.val y _ ?_ ?_ ?_)
  · show blkScores _ _ _ y = _
    rw [h1, h2]
  · exact win6_3.rect_emb_val_of_index_zero t 0 i2 y
  · exact (win6_3.rect_emb_val t y 1).trans (by rw [i3]; rfl)
  · intro z i hi0 hi1
    refine congrArg (V c main_arg0) (funext fun a => Fin.ext ?_)
    match a with
    | ⟨0, _⟩ => exact ((win6_0.rect_emb_val t z 0).trans (by rw [i0]; rfl)).trans hi0.symm
    | ⟨1, _⟩ => exact (win6_0.rect_emb_val_of_index_zero t 1 i1 z).trans hi1.symm

theorem arrays6 (c : Dev nD) (n : ℕ) : ((pdats V 3 c).arrays ((pdats V 3 c).arrAt · n) : sProp 𝕄)
    = iprop(((c : Thread nD τ).loc main_arg0 ↦{fullShare} V c main_arg0) ∗ ((c : Thread nD τ).loc main_arg1 ↦{fullShare} V c main_arg1)
      ∗ ((c : Thread nD τ).loc main_arg2 ↦{fullShare} V c main_arg2) ∗ s3Loc c ↦{fullShare} (dat6 V c).arrAt 3 n) := by
  rw [Pipeline.arrays_eq (Pipeline.pin (pcfgs (F := F)) adm) (pdats V) 3 c launch6.arr_whole ((pdats V 3 c).share_full (pdats_q V 3 c))]
  refine (bigSep_W6 _).trans ?_
  rw [(pdats V 3 c).arrAt_in 0 rfl n, (pdats V 3 c).arrAt_in 1 rfl n, (pdats V 3 c).arrAt_in 2 rfl n]
  rfl

/-- The three arrays the scores are computed from. -/
abbrev ins (c : Dev nD) : sProp 𝕄 :=
  iprop(((c : Thread nD τ).loc main_arg0 ↦{fullShare} V c main_arg0) ∗ ((c : Thread nD τ).loc main_arg1 ↦{fullShare} V c main_arg1)
      ∗ ((c : Thread nD τ).loc main_arg2 ↦{fullShare} V c main_arg2))

/-- Chunk `q`'s scores buffer as the launch has it. -/
def sRaw (q : Fin 4) (d : Dev nD) : sProp 𝕄 :=
  match q with
  | 0 => s0Loc d ↦{fullShare} V d main_v1
  | 1 => s1Loc d ↦{fullShare} V d main_v3
  | 2 => s2Loc d ↦{fullShare} V d main_v5
  | 3 => s3Loc d ↦{fullShare} V d main_v7

theorem seg_pre (q : Fin 4) (c : Dev nD) : iprop(ins V c ∗ sRaw V q c ∗ tcOwes c q.val) ⊢ (seg V q).pre c := by
  refine Entails.trans (Q := iprop((pdats V q c).arrays ((pdats V q c).arrAt · 0) ∗ tcOwes c q.val)) ?_ .rfl
  have h : iprop(ins V c ∗ sRaw V q c) ⊢ ((pdats V q c).arrays ((pdats V q c).arrAt · 0) : sProp 𝕄) := by
    have e : ∀ A B C D : sProp 𝕄, iprop((A ∗ B ∗ C) ∗ D) ⊢ iprop(A ∗ B ∗ C ∗ D) := fun A B C D => by
      iintro ⟨⟨HA, HB, HC⟩, HD⟩
      isplitl [HA]; · iexact HA
      isplitl [HB]; · iexact HB
      isplitl [HC]; · iexact HC
      iexact HD
    match q with
    | 0 => exact (e _ _ _ (s0Loc c ↦{fullShare} V c main_v1)).trans (Entails.of_eq (arrays0 V c 0).symm)
    | 1 => exact (e _ _ _ (s1Loc c ↦{fullShare} V c main_v3)).trans (Entails.of_eq (arrays2 V c 0).symm)
    | 2 => exact (e _ _ _ (s2Loc c ↦{fullShare} V c main_v5)).trans (Entails.of_eq (arrays4 V c 0).symm)
    | 3 => exact (e _ _ _ (s3Loc c ↦{fullShare} V c main_v7)).trans (Entails.of_eq (arrays6 V c 0).symm)
  iintro ⟨Hi, Hs, HO⟩
  isplitl [Hi Hs]
  · iapply h; isplitl [Hi]; · iexact Hi
    iexact Hs
  iexact HO

theorem seg_post (q : Fin 4) (c : Dev nD) : (seg V q).post c ⊢ iprop(ins V c ∗ sPts (svOf V) q c Finset.univ ∗ tcOwes c q.val) := by
  refine Entails.trans (Q := iprop((pdats V q c).arrays ((pdats V q c).arrAt · (Pipeline.pin (pcfgs (F := F)) adm q).N) ∗ tcOwes c q.val)) .rfl ?_
  have h : ((pdats V q c).arrays ((pdats V q c).arrAt · (Pipeline.pin (pcfgs (F := F)) adm q).N) : sProp 𝕄) ⊢ iprop(ins V c ∗ sPts (svOf V) q c Finset.univ) := by
    have e : ∀ A B C D : sProp 𝕄, iprop(A ∗ B ∗ C ∗ D) ⊢ iprop((A ∗ B ∗ C) ∗ D) := fun A B C D => by
      iintro ⟨HA, HB, HC, HD⟩
      isplitl [HA HB HC]; · isplitl [HA]; · iexact HA
                            isplitl [HB]; · iexact HB
                            iexact HC
      iexact HD
    match q with
    | 0 => exact (Entails.of_eq (arrays0 V c cfg0.N)).trans ((e _ _ _ _).trans (Entails.of_eq (by rw [out0]; rfl)))
    | 1 => exact (Entails.of_eq (arrays2 V c cfg2.N)).trans ((e _ _ _ _).trans (Entails.of_eq (by rw [out2]; rfl)))
    | 2 => exact (Entails.of_eq (arrays4 V c cfg4.N)).trans ((e _ _ _ _).trans (Entails.of_eq (by rw [out4]; rfl)))
    | 3 => exact (Entails.of_eq (arrays6 V c cfg6.N)).trans ((e _ _ _ _).trans (Entails.of_eq (by rw [out6]; rfl)))
  iintro ⟨Ha, HO⟩
  ihave H := h $$ Ha
  icases H with ⟨Hi, Hs⟩
  isplitl [Hi]; · iexact Hi
  isplitl [Hs]; · iexact Hs
  iexact HO

/-- The ghost state of chunk `q`'s pipeline. -/
abbrev pipeGhost (q : Fin 4) (c : Dev nD) : sProp 𝕄 :=
  iprop(Pipeline.cellsGhost (Pipeline.pin (pcfgs (F := F)) adm) EP q c ∗ Pipeline.toksInit (Pipeline.pin (pcfgs (F := F)) adm) EP q c)

/-- The pipelines' cells are distinct. -/
theorem pinj : Function.Injective (Pipeline.cellOf (nD := nD) (τ := τ) (Pipeline.pin (pcfgs (F := F)) adm)) := cellOf_inj

set_option backward.isDefEq.respectTransparency.types false in
/-- Chunk `q`'s scores, computed on the TensorCore within the whole program. -/
theorem wp_scores (q : Fin 4) (c : Dev nD) :
    iprop(boundary (SparseCore.T c : Thread nD τ) ∗ ins V c ∗ sRaw V q c ∗ tcOwes c q.val ∗ levAts (K (F := F)).L (K (F := F)).lev ∗ pipeGhost (F := F) q c)
      ⊢ wp (M := 𝕄) frame (wpE ((K (F := F)).defs (D (F := F))) 𝒱 (SparseCore.T c : Thread nD τ) none) Set.univ
          (Prog.lift (.customCall (SparseCore.inner (Pipeline.entry q)) ()))
          fun _ => iprop(boundary (SparseCore.T c : Thread nD τ) ∗ ins V c ∗ sPts (svOf V) q c Finset.univ ∗ tcOwes c q.val) := by
  have hl : (Prog.lift (.customCall (SparseCore.inner (Pipeline.entry q)) ()) : Prog (TpuEff nD τ sig (Elt F) (SparseCore.Sig (ΛP (F := F)) 4) .tc) PUnit)
      = SparseCore.liftProg (.op (.customCall (Pipeline.entry q) ()) fun _ => .ret ⟨⟩) := rfl
  rw [hl]
  refine BIBase.Entails.trans ?_ ((K (F := F)).wp_liftProg (D (F := F)) 𝒱 (SparseCore.T c : Thread nD τ) Set.univ none _ _)
  have hw := Pipeline.RegionSeg.wp (pcfgs (F := F)) adm (pdats V) (none : HIx 4) pinj EP defs₀ 𝒱₀ (K (F := F)).L (K (F := F)).lev (seg V q) c none
    (fun u hu => nomatch hu) (α := PUnit) (fun _ => .ret ⟨⟩)
    (fun _ : PUnit => iprop(boundary (SparseCore.T c : Thread nD τ) ∗ ins V c ∗ sPts (svOf V) q c Finset.univ ∗ tcOwes c q.val))
  refine BIBase.Entails.trans ?_ hw
  iintro ⟨Hb, Hi, Hs, HO, Hl, Hg, Ht⟩
  isplitr
  · iintro ⟨Hb, Hp⟩
    rw [wp_ret]
    imodintro
    isplitl [Hb]; · iexact Hb
    iapply (seg_post V q c); iexact Hp
  isplitl [Hb]; · iexact Hb
  isplitl [Hi Hs HO]
  · iapply (seg_pre V q c)
    isplitl [Hi]; · iexact Hi
    isplitl [Hs]; · iexact Hs
    iexact HO
  isplitl [Hl]; · iexact Hl
  isplitl [Hg]; · iexact Hg
  iexact Ht

end Cert.Proof.Gate

end
-- ==== Proof.Task.lean ====
module

public import proofs.«01_k».proof.Proof.Launch

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

variable (sv : Scores F)

/-! ## A tile's task, whichever call it is of -/

section In

variable (d : Dev nD) (i : grid1.Coords)

theorem off_block (q : Fin 4) {o : ℕ} (h : o = 512 * (i 1).val + 256 * (i 0).val + 8192 * q.val := by rfl) :
    (![0, o] : Fin 2 → ℕ) = ![0, 256 * (32 * q.val + 2 * (i 1).val + (i 0).val)] := by
  rw [h, show 512 * (i 1).val + 256 * (i 0).val + 8192 * q.val = 256 * (32 * q.val + 2 * (i 1).val + (i 0).val) by omega]

/-- A tile's own buffers are two of its scratches and the rest. -/
theorem tileBufs (b0 b1 : Ref sig .scVector)
    (h0 : ∀ c s, ((Proc.scVector c s : Proc τ).devRef b0).owner = .proc (.scVector c s))
    (h1 : ∀ c s, ((Proc.scVector c s : Proc τ).devRef b1).owner = .proc (.scVector c s)) (h : b1 ≠ b0) :
    ∃ RB, (scopedBufs (tileOf d i) : sProp 𝕄)
      = iprop((∃ f, (tileOf d i).loc b0 ↦{fullShare} f) ∗ (∃ f, (tileOf d i).loc b1 ↦{fullShare} f) ∗ RB) :=
  ⟨_, ((K (F := F)).scopedBufs_V facts d _ _).trans (ownBufs_two d _ _ b0 b1 (h0 _ _) (h1 _ _) h)⟩

/-- A tile's own semaphores are two of them and the rest. -/
theorem tileSems (l0 l1 : SemLoc sig) (h0 : l0.isScoped .scVector = true) (h1 : l1.isScoped .scVector = true) (h : l1 ≠ l0) :
    ∃ RS, (scopedSems0 (tileOf d i) : sProp 𝕄) = iprop(semVal (tileOf d i, l0) 0 ∗ semVal (tileOf d i, l1) 0 ∗ RS) :=
  ⟨_, (SparseCore.Cfg.scopedSems0_V (Val := Elt F) d _ _).trans (ownSems0_two d _ _ l0 l1 h0 h1 h)⟩

end In

/-- A tile's task on its columns: whatever the result held there, it holds the routed scores after, the tile's scratches and
    semaphores given back. -/
theorem tile_task (hok : HitOK sv) (q : Fin 4) (d : Dev nD) (i : grid1.Coords) (off : Fin 2 → ℕ) (inb : ∀ a, off a + S8x256.size a ≤ S8x32768.size a)
    (hoff : off = ![0, 256 * (32 * q.val + 2 * (i 1).val + (i 0).val)])
    (a2 : Memref sig .scVector .hbm S8x8192 .f32) (h2 : a2.IsWhole)
    (a5 : Memref sig .scVector .vmem S8x256 .f32) (h5 : a5.IsWhole) (a6 : Memref sig .scVector .vmem S8x256 .f32) (h6 : a6.IsWhole)
    (r0 r1 : DmaSems sig S_)
    (fs : Buf (Elt F) ((inPart i a2).view.loc (tileOf d i)))
    (hfs : (inPart i a2).view.read (Elt F) fs = fun j => sv q d (inIdx i j))
    (hin : ((inPart i a2).view.loc (tileOf d i) ↦[(inPart i a2).view.set]{fullShare} fs : sProp 𝕄) = sPts sv q d (sSet (2 * (i 1).val + (i 0).val)))
    (hb : ∃ RB, (scopedBufs (tileOf d i) : sProp 𝕄)
      = iprop((∃ f, a5.view.loc (tileOf d i) ↦{fullShare} f) ∗ (∃ f, a6.view.loc (tileOf d i) ↦{fullShare} f) ∗ RB))
    (hs : ∃ RS, (scopedSems0 (tileOf d i) : sProp 𝕄)
      = iprop(semVal (tileOf d i, SemLoc.dma r0.sem) 0 ∗ semVal (tileOf d i, SemLoc.dma r1.sem) 0 ∗ RS))
    (O : CellTallies nD τ sig (HIx 4)) (W : Waits sig (HIx 4)) (hO : ∀ g, O g none = 0) :
    iprop(levAts (K (F := F)).L (K (F := F)).lev ∗ iprop(emp) ∗ goAt sv q d (i 0).val (i 1).val ∗ scopedBufs (tileOf d i) ∗ scopedSems0 (tileOf d i) ∗ owes (tileOf d i) O W)
      ⊢ wp (M := 𝕄) frame (wpE (defs₀ (F := F)) 𝒱₀ (tileOf d i) none) Set.univ
          (routing i off inb a2 h2 oV (Memref.isWhole_whole _) oV (Memref.isWhole_whole _) a5 h5 a6 h6 r0 r1)
          fun _ => iprop(tdAt sv q d (i 0).val (i 1).val ∗ scopedBufs (tileOf d i) ∗ scopedSems0 (tileOf d i)
            ∗ ∃ W', ⌜∀ p ∈ W', p ∈ W ∨ p.2 = none⌝ ∗ owes (tileOf d i) O W') := by
  have hlt : ∀ c, (tokArg (col ((inPart i a2).view.read (Elt F) fs) c)).toNat < 8 := fun c => by
    rw [hfs]; exact hok q d _
  obtain ⟨RB, hb⟩ := hb
  obtain ⟨RS, hs⟩ := hs
  rw [hb, hs]
  unfold goAt tdAt
  rw [← hin]
  iintro ⟨HL, -, ⟨Hin, %fo, Hout⟩, ⟨⟨%f5, H5⟩, ⟨%f6, H6⟩, HRB⟩, ⟨Hr0, Hr1, HRS⟩, HO⟩
  ihave Hout := (Entails.of_eq (out_pts (F := F) d i off inb _ hoff fo).symm) $$ Hout
  ihave Hwp := (routing_body d i off inb a2 h2 oV (Memref.isWhole_whole _) oV (Memref.isWhole_whole _) a5 h5 a6 h6 r0 r1 O W hO fs hlt fo f5 f6) $$ [HL Hin Hout H5 H6 Hr0 Hr1 HO]
  · isplitl [HL]; · iexact HL
    isplitl [Hin]; · iexact Hin
    isplitl [Hout]; · iexact Hout
    isplitl [H5]; · iexact H5
    isplitl [H6]; · iexact H6
    isplitl [Hr0]; · iexact Hr0
    isplitl [Hr1]; · iexact Hr1
    iexact HO
  iapply (wp_wand frame _ _) $$ Hwp
  iintro %a ⟨Hin, ⟨%fo', %hfo, Hout⟩, H5, H6, Hr0, Hr1, HO⟩
  rw [hfs] at hfo
  ihave Hout := (Entails.of_eq (out_pts (F := F) d i off inb _ hoff fo')) $$ Hout
  ihave Hout := (Entails.of_eq (out_routed (F := F) sv d i off inb q hoff fo' hfo)) $$ Hout
  isplitl [Hin Hout]
  · isplitl [Hin]; · iexact Hin
    iexact Hout
  isplitl [H5 H6 HRB]
  · isplitl [H5]; · iexact H5
    isplitl [H6]; · iexact H6
    iexact HRB
  isplitl [Hr0 Hr1 HRS]
  · isplitl [Hr0]; · iexact Hr0
    isplitl [Hr1]; · iexact Hr1
    iexact HRS
  iexact HO

/-! ## The four calls -/

def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') :=
  sep_mono_right (sep_mono_right (sep_mono_right (exists_mono fun _ => sep_mono_left (BI.Laws.pure_mono fun h p hp => (h p hp).imp_right Or.inl))))

theorem defs₀_1 (c : Fin τ.nSC) (s : Fin τ.nSub) :
    defs₀ (F := F) (.scVector c s) 1 ()
      = SparseCore.onTile hcore1 hsub1 (fun c s => cc1__routing_kernel (coordsV c s)
          (Memref.whole main_v1_scv) (Memref.isWhole_whole _) oV (Memref.isWhole_whole _) oV (Memref.isWhole_whole _)
          (Memref.whole cc1_scratch0) (Memref.isWhole_whole _) (Memref.whole cc1_scratch1) (Memref.isWhole_whole _) cc1_scoped0 cc1_scoped1) ⟨⟩ c s := rfl

theorem task_1 (hok : HitOK sv) (d : Dev nD) (i : grid1.Coords) (O : CellTallies nD τ sig (HIx 4)) (W : Waits sig (HIx 4)) (hO : ∀ g, O g none = 0) :
    iprop(levAts (K (F := F)).L (K (F := F)).lev ∗ iprop(emp) ∗ goAt sv 0 d (i 0).val (i 1).val ∗ scopedBufs (tileOf d i) ∗ scopedSems0 (tileOf d i) ∗ owes (tileOf d i) O W)
      ⊢ wp (M := 𝕄) frame (wpE (defs₀ (F := F)) 𝒱₀ (tileOf d i) none) Set.univ
          (cc1__routing_kernel i (Memref.whole main_v1_scv) (Memref.isWhole_whole _) oV (Memref.isWhole_whole _) oV (Memref.isWhole_whole _)
            (Memref.whole cc1_scratch0) (Memref.isWhole_whole _) (Memref.whole cc1_scratch1) (Memref.isWhole_whole _) cc1_scoped0 cc1_scoped1)
          fun _ => iprop(tdAt sv 0 d (i 0).val (i 1).val ∗ scopedBufs (tileOf d i) ∗ scopedSems0 (tileOf d i)
            ∗ ∃ W', ⌜∀ p ∈ W', p ∈ W ∨ p.2 = none⌝ ∗ owes (tileOf d i) O W') := by
  have hset : (inPart i (Memref.whole main_v1_scv)).view.set = sSet (2 * (i 1).val + (i 0).val) := by
    show ((View.whole (main_v1_scv : Ref sig .scVector)).slice (Rect.unit (s := S8x8192) (k1_off1 i) S8x256.size (k1_off1_inb i))).set = _
    rw [View.set_slice]
    exact (Finset.map_refl).trans (set_block _ _ _ (off1_block i))
  have hread : (inPart i (Memref.whole main_v1_scv)).view.read (Elt F) (sv 0 d) = fun j => sv 0 d (inIdx i j) := by
    funext j
    exact ((View.read_apply _ _).trans (cast_eq _ _)).trans (congrArg (sv 0 d) (emb_block _ _ _ (off1_block i) j _))
  have hb : ∃ RB, (scopedBufs (tileOf d i) : sProp 𝕄)
      = iprop((∃ f, (Memref.whole cc1_scratch0).view.loc (tileOf d i) ↦{fullShare} f) ∗ (∃ f, (Memref.whole cc1_scratch1).view.loc (tileOf d i) ↦{fullShare} f) ∗ RB) :=
    tileBufs d i cc1_scratch0 cc1_scratch1 (fun _ _ => rfl) (fun _ _ => rfl) (by decide)
  rw [cc1_eq]
  exact tile_task sv hok 0 d i _ _ (by rw [k1_off10_eq]; exact off_block i 0) _ _ _ _ _ _ _ _ (sv 0 d) hread
    (by rw [hset]; rfl) hb
    (tileSems d i _ _ (by decide) (by decide) (by decide)) O W hO

set_option maxRecDepth 16384 in
theorem tileObl_1 (hok : HitOK sv) : (K (F := F)).TileObl (D (F := F)) 𝒱 (P sv) v₀ 0 := by
  intro d c i O W hO _ _
  simp only [show (P sv).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  exact (task_1 sv hok d (coordsV ⟨_, hci.1⟩ ⟨_, hci.2⟩) O W hO).trans (wp_mono frame _ _ fun _ => obl_post)

theorem defs₀_3 (c : Fin τ.nSC) (s : Fin τ.nSub) :
    defs₀ (F := F) (.scVector c s) 3 ()
      = SparseCore.onTile hcore3 hsub3 (fun c s => cc3__routing_kernel (coordsV c s)
          (Memref.whole main_v3_scv) (Memref.isWhole_whole _) oV (Memref.isWhole_whole _) oV (Memref.isWhole_whole _)
          (Memref.whole cc3_scratch0) (Memref.isWhole_whole _) (Memref.whole cc3_scratch1) (Memref.isWhole_whole _) cc3_scoped0 cc3_scoped1) ⟨⟩ c s := rfl

theorem task_3 (hok : HitOK sv) (d : Dev nD) (i : grid1.Coords) (O : CellTallies nD τ sig (HIx 4)) (W : Waits sig (HIx 4)) (hO : ∀ g, O g none = 0) :
    iprop(levAts (K (F := F)).L (K (F := F)).lev ∗ iprop(emp) ∗ goAt sv 1 d (i 0).val (i 1).val ∗ scopedBufs (tileOf d i) ∗ scopedSems0 (tileOf d i) ∗ owes (tileOf d i) O W)
      ⊢ wp (M := 𝕄) frame (wpE (defs₀ (F := F)) 𝒱₀ (tileOf d i) none) Set.univ
          (cc3__routing_kernel i (Memref.whole main_v3_scv) (Memref.isWhole_whole _) oV (Memref.isWhole_whole _) oV (Memref.isWhole_whole _)
            (Memref.whole cc3_scratch0) (Memref.isWhole_whole _) (Memref.whole cc3_scratch1) (Memref.isWhole_whole _) cc3_scoped0 cc3_scoped1)
          fun _ => iprop(tdAt sv 1 d (i 0).val (i 1).val ∗ scopedBufs (tileOf d i) ∗ scopedSems0 (tileOf d i)
            ∗ ∃ W', ⌜∀ p ∈ W', p ∈ W ∨ p.2 = none⌝ ∗ owes (tileOf d i) O W') := by
  have hset : (inPart i (Memref.whole main_v3_scv)).view.set = sSet (2 * (i 1).val + (i 0).val) := by
    show ((View.whole (main_v3_scv : Ref sig .scVector)).slice (Rect.unit (s := S8x8192) (k1_off1 i) S8x256.size (k1_off1_inb i))).set = _
    rw [View.set_slice]
    exact (Finset.map_refl).trans (set_block _ _ _ (off1_block i))
  have hread : (inPart i (Memref.whole main_v3_scv)).view.read (Elt F) (sv 1 d) = fun j => sv 1 d (inIdx i j) := by
    funext j
    exact ((View.read_apply _ _).trans (cast_eq _ _)).trans (congrArg (sv 1 d) (emb_block _ _ _ (off1_block i) j _))
  have hb : ∃ RB, (scopedBufs (tileOf d i) : sProp 𝕄)
      = iprop((∃ f, (Memref.whole cc3_scratch0).view.loc (tileOf d i) ↦{fullShare} f) ∗ (∃ f, (Memref.whole cc3_scratch1).view.loc (tileOf d i) ↦{fullShare} f) ∗ RB) :=
    tileBufs d i cc3_scratch0 cc3_scratch1 (fun _ _ => rfl) (fun _ _ => rfl) (by decide)
  rw [cc3_eq]
  exact tile_task sv hok 1 d i _ _ (by rw [k3_off10_eq]; exact off_block i 1) _ _ _ _ _ _ _ _ (sv 1 d) hread
    (by rw [hset]; rfl) hb
    (tileSems d i _ _ (by decide) (by decide) (by decide)) O W hO

set_option maxRecDepth 16384 in
theorem tileObl_3 (hok : HitOK sv) : (K (F := F)).TileObl (D (F := F)) 𝒱 (P sv) v₀ 1 := by
  intro d c i O W hO _ _
  simp only [show (P sv).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_3]; simp only [SparseCore.onTile, hci, and_self, ↓reduceDIte]
  exact (task_3 sv hok d (coordsV ⟨_, hci.1⟩ ⟨_, hci.2⟩) O W hO).trans (wp_mono frame _ _ fun _ => obl_post)

theorem defs₀_5 (c : Fin τ.nSC) (s : Fin τ.nSub) :
    defs₀ (F := F) (.scVector c s) 5 ()
      = SparseCore.onTile hcore5 hsub5 (fun c s => cc5__routing_kernel (coordsV c s)
          (Memref.whole main_v5_scv) (Memref.isWhole_whole _) oV (Memref.isWhole_whole _) oV (Memref.isWhole_whole _)
          (Memref.whole cc5_scratch0) (Memref.isWhole_whole _) (Memref.whole cc5_scratch1) (Memref.isWhole_whole _) cc5_scoped0 cc5_scoped1) ⟨⟩ c s := rfl

theorem task_5 (hok : HitOK sv) (d : Dev nD) (i : grid1.Coords) (O : CellTallies nD τ sig (HIx 4)) (W : Waits sig (HIx 4)) (hO : ∀ g, O g none = 0) :
    iprop(levAts (K (F := F)).L (K (F := F)).lev ∗ iprop(emp) ∗ goAt sv 2 d (i 0).val (i 1).val ∗ scopedBufs (tileOf d i) ∗ scopedSems0 (tileOf d i) ∗ owes (tileOf d i) O W)
      ⊢ wp (M := 𝕄) frame (wpE (defs₀ (F := F)) 𝒱₀ (tileOf d i) none) Set.univ
          (cc5__routing_kernel i (Memref.whole main_v5_scv) (Memref.isWhole_whole _) oV (Memref.isWhole_whole _) oV (Memref.isWhole_whole _)
            (Memref.whole cc5_scratch0) (Memref.isWhole_whole _) (Memref.whole cc5_scratch1) (Memref.isWhole_whole _) cc5_scoped0 cc5_scoped1)
          fun _ => iprop(tdAt sv 2 d (i 0).val (i 1).val ∗ scopedBufs (tileOf d i) ∗ scopedSems0 (tileOf d i)
            ∗ ∃ W', ⌜∀ p ∈ W', p ∈ W ∨ p.2 = none⌝ ∗ owes (tileOf d i) O W') := by
  have hset : (inPart i (Memref.whole main_v5_scv)).view.set = sSet (2 * (i 1).val + (i 0).val) := by
    show ((View.whole (main_v5_scv : Ref sig .scVector)).slice (Rect.unit (s := S8x8192) (k1_off1 i) S8x256.size (k1_off1_inb i))).set = _
    rw [View.set_slice]
    exact (Finset.map_refl).trans (set_block _ _ _ (off1_block i))
  have hread : (inPart i (Memref.whole main_v5_scv)).view.read (Elt F) (sv 2 d) = fun j => sv 2 d (inIdx i j) := by
    funext j
    exact ((View.read_apply _ _).trans (cast_eq _ _)).trans (congrArg (sv 2 d) (emb_block _ _ _ (off1_block i) j _))
  have hb : ∃ RB, (scopedBufs (tileOf d i) : sProp 𝕄)
      = iprop((∃ f, (Memref.whole cc5_scratch0).view.loc (tileOf d i) ↦{fullShare} f) ∗ (∃ f, (Memref.whole cc5_scratch1).view.loc (tileOf d i) ↦{fullShare} f) ∗ RB) :=
    tileBufs d i cc5_scratch0 cc5_scratch1 (fun _ _ => rfl) (fun _ _ => rfl) (by decide)
  rw [cc5_eq]
  exact tile_task sv hok 2 d i _ _ (by rw [k5_off10_eq]; exact off_block i 2) _ _ _ _ _ _ _ _ (sv 2 d) hread
    (by rw [hset]; rfl) hb
    (tileSems d i _ _ (by decide) (by decide) (by decide)) O W hO

set_option maxRecDepth 16384 in
theorem tileObl_5 (hok : HitOK sv) : (K (F := F)).TileObl (D (F := F)) 𝒱 (P sv) v₀ 2 := by
  intro d c i O W hO _ _
  simp only [show (P sv).ox = fun _ _ => 0 from rfl, add_zero]
  have hci : ((K (F := F)).core 2 c).val < grid5.bound 0 ∧ ((K (F := F)).sub 2 i).val < grid5.bound 1 := ⟨c.isLt, i.isLt⟩
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  rw [defs₀_5]; simp only [SparseCore.onTile, hci, and_self, ↓reduceDIte]
  exact (task_5 sv hok d (coordsV ⟨_, hci.1⟩ ⟨_, hci.2⟩) O W hO).trans (wp_mono frame _ _ fun _ => obl_post)

theorem defs₀_7 (c : Fin τ.nSC) (s : Fin τ.nSub) :
    defs₀ (F := F) (.scVector c s) 7 ()
      = SparseCore.onTile hcore7 hsub7 (fun c s => cc7__routing_kernel (coordsV c s)
          (Memref.whole main_v7_scv) (Memref.isWhole_whole _) oV (Memref.isWhole_whole _) oV (Memref.isWhole_whole _)
          (Memref.whole cc7_scratch0) (Memref.isWhole_whole _) (Memref.whole cc7_scratch1) (Memref.isWhole_whole _) cc7_scoped0 cc7_scoped1) ⟨⟩ c s := rfl

theorem task_7 (hok : HitOK sv) (d : Dev nD) (i : grid1.Coords) (O : CellTallies nD τ sig (HIx 4)) (W : Waits sig (HIx 4)) (hO : ∀ g, O g none = 0) :
    iprop(levAts (K (F := F)).L (K (F := F)).lev ∗ iprop(emp) ∗ goAt sv 3 d (i 0).val (i 1).val ∗ scopedBufs (tileOf d i) ∗ scopedSems0 (tileOf d i) ∗ owes (tileOf d i) O W)
      ⊢ wp (M := 𝕄) frame (wpE (defs₀ (F := F)) 𝒱₀ (tileOf d i) none) Set.univ
          (cc7__routing_kernel i (Memref.whole main_v7_scv) (Memref.isWhole_whole _) oV (Memref.isWhole_whole _) oV (Memref.isWhole_whole _)
            (Memref.whole cc7_scratch0) (Memref.isWhole_whole _) (Memref.whole cc7_scratch1) (Memref.isWhole_whole _) cc7_scoped0 cc7_scoped1)
          fun _ => iprop(tdAt sv 3 d (i 0).val (i 1).val ∗ scopedBufs (tileOf d i) ∗ scopedSems0 (tileOf d i)
            ∗ ∃ W', ⌜∀ p ∈ W', p ∈ W ∨ p.2 = none⌝ ∗ owes (tileOf d i) O W') := by
  have hset : (inPart i (Memref.whole main_v7_scv)).view.set = sSet (2 * (i 1).val + (i 0).val) := by
    show ((View.whole (main_v7_scv : Ref sig .scVector)).slice (Rect.unit (s := S8x8192) (k1_off1 i) S8x256.size (k1_off1_inb i))).set = _
    rw [View.set_slice]
    exact (Finset.map_refl).trans (set_block _ _ _ (off1_block i))
  have hread : (inPart i (Memref.whole main_v7_scv)).view.read (Elt F) (sv 3 d) = fun j => sv 3 d (inIdx i j) := by
    funext j
    exact ((View.read_apply _ _).trans (cast_eq _ _)).trans (congrArg (sv 3 d) (emb_block _ _ _ (off1_block i) j _))
  have hb : ∃ RB, (scopedBufs (tileOf d i) : sProp 𝕄)
      = iprop((∃ f, (Memref.whole cc7_scratch0).view.loc (tileOf d i) ↦{fullShare} f) ∗ (∃ f, (Memref.whole cc7_scratch1).view.loc (tileOf d i) ↦{fullShare} f) ∗ RB) :=
    tileBufs d i cc7_scratch0 cc7_scratch1 (fun _ _ => rfl) (fun _ _ => rfl) (by decide)
  rw [cc7_eq]
  exact tile_task sv hok 3 d i _ _ (by rw [k7_off10_eq]; exact off_block i 3) _ _ _ _ _ _ _ _ (sv 3 d) hread
    (by rw [hset]; rfl) hb
    (tileSems d i _ _ (by decide) (by decide) (by decide)) O W hO

set_option maxRecDepth 16384 in
theorem tileObl_7 (hok : HitOK sv) : (K (F := F)).TileObl (D (F := F)) 𝒱 (P sv) v₀ 3 := by
  intro d c i O W hO _ _
  simp only [show (P sv).ox = fun _ _ => 0 from rfl, add_zero]
  have hci : ((K (F := F)).core 3 c).val < grid7.bound 0 ∧ ((K (F := F)).sub 3 i).val < grid7.bound 1 := ⟨c.isLt, i.isLt⟩
  change _ ⊢ wp _ _ _ (Pipeline.liftProg (defs₀ (F := F) (.scVector ((K (F := F)).core 3 c) ((K (F := F)).sub 3 i)) 7 ())) _
  refine BI.Entails.trans ?_ (Pipeline.wp_liftProg (D (F := F)) (Pipeline.defs_kernel pcfgs defs₀) 𝒱₀ _ Set.univ none _ _)
  rw [defs₀_7]; simp only [SparseCore.onTile, hci, and_self, ↓reduceDIte]
  exact (task_7 sv hok d (coordsV ⟨_, hci.1⟩ ⟨_, hci.2⟩) O W hO).trans (wp_mono frame _ _ fun _ => obl_post)

end Cert.Proof.Gate

end
-- ==== Proof.Main.lean ====
/-
  The whole program on the TensorCore: four times the scores of a chunk and the call that routes it, then the
  transpose; and the run of every thread it gives.
-/
module

public import proofs.«01_k».proof.Proof.Region
public import proofs.«01_k».proof.Proof.Task
public import Idealize.ShloMosaic.Lib.StableHlo.Run

@[expose] public section

noncomputable section

namespace Cert.Proof.Gate

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation BodyObligationLoose)

variable {F : FTy → Type} [FloatOps F]

local notation "𝕄" => MT nD τ sig (HIx 4) (Elt F) ℕ UU ℕ

variable (V : (c : Dev nD) → (b : Ref sig .tc) → Buf (Elt F) ((c : Thread nD τ).loc b))

/-! ## The blocks of columns, tile by tile -/

theorem colSet_disjoint {n w w' : ℕ} (h : w ≠ w') : Disjoint (colSet (n := n) w) (colSet w') :=
  Finset.disjoint_left.mpr fun _ hj hj' => h ((mem_colSet.mp hj).symm.trans (mem_colSet.mp hj'))

/-- The thirty-two tiles' columns are all of a chunk's. -/
theorem s_cover : (Finset.univ : Finset (Fin 2 × Fin 16)).biUnion (fun x => sSet (2 * x.2.val + x.1.val)) = Finset.univ := by
  ext j
  have hj : (j 1).val < 8192 := (j 1).isLt
  simp only [Finset.mem_biUnion, Finset.mem_univ, true_and, iff_true, mem_colSet]
  exact ⟨(⟨(j 1).val / 256 % 2, by omega⟩, ⟨(j 1).val / 256 / 2, by omega⟩), by show _ = 2 * ((j 1).val / 256 / 2) + (j 1).val / 256 % 2; omega⟩

theorem s_disj (t : Fin 2 × Fin 16) (t' : Fin 2 × Fin 16) (h : t ≠ t') : Disjoint (sSet (2 * t.2.val + t.1.val)) (sSet (2 * t'.2.val + t'.1.val)) :=
  colSet_disjoint fun e => h (Prod.ext (Fin.ext (by have := t.1.isLt; have := t'.1.isLt; omega)) (Fin.ext (by have := t.1.isLt; have := t'.1.isLt; omega)))

/-- The four calls' tiles' columns are all of the result's. -/
theorem o_cover : (Finset.univ : Finset (Fin 4 × Fin 2 × Fin 16)).biUnion (fun x => oSet (32 * x.1.val + 2 * x.2.2.val + x.2.1.val)) = Finset.univ := by
  ext j
  have hj : (j 1).val < 32768 := (j 1).isLt
  simp only [Finset.mem_biUnion, Finset.mem_univ, true_and, iff_true, mem_colSet]
  exact ⟨(⟨(j 1).val / 256 / 32, by omega⟩, ⟨(j 1).val / 256 % 2, by omega⟩, ⟨(j 1).val / 256 % 32 / 2, by omega⟩), by
    show _ = 32 * ((j 1).val / 256 / 32) + 2 * ((j 1).val / 256 % 32 / 2) + (j 1).val / 256 % 2; omega⟩

theorem o_disj (t t' : Fin 4 × Fin 2 × Fin 16) (h : t ≠ t') :
    Disjoint (oSet (32 * t.1.val + 2 * t.2.2.val + t.2.1.val)) (oSet (32 * t'.1.val + 2 * t'.2.2.val + t'.2.1.val)) :=
  colSet_disjoint fun e => h (by
    obtain ⟨a, b, c⟩ := t
    obtain ⟨a', b', c'⟩ := t'
    have := b.isLt; have := b'.isLt; have := c.isLt; have := c'.isLt
    have e' : 32 * a.val + 2 * c.val + b.val = 32 * a'.val + 2 * c'.val + b'.val := e
    exact Prod.ext (Fin.ext (by show a.val = a'.val; omega)) (Prod.ext (Fin.ext (by show b.val = b'.val; omega)) (Fin.ext (by show c.val = c'.val; omega))))

theorem sPts_tiles (sv : Scores F) (q : Fin 4) (d : Dev nD) :
    (sPts sv q d Finset.univ : sProp 𝕄)
      = bigSep Finset.univ fun c : Fin 2 => bigSep Finset.univ fun i : Fin 16 => sPts sv q d (sSet (2 * i.val + c.val)) := by
  refine Eq.trans ?_ (BI.bigSep_univ_prod fun x : Fin 2 × Fin 16 => sPts sv q d (sSet (2 * x.2.val + x.1.val)))
  rw [← s_cover]
  match q with
  | 0 => exact pointsTo_biUnion _ _ fun t _ t' _ h => s_disj t t' h
  | 1 => exact pointsTo_biUnion _ _ fun t _ t' _ h => s_disj t t' h
  | 2 => exact pointsTo_biUnion _ _ fun t _ t' _ h => s_disj t t' h
  | 3 => exact pointsTo_biUnion _ _ fun t _ t' _ h => s_disj t t' h

/-- Call `q`'s columns of the result, at some contents; routed. -/
def oRaw (q : Fin 4) (d : Dev nD) : sProp 𝕄 := bigSep Finset.univ fun c : Fin 2 => bigSep Finset.univ fun i : Fin 16 =>
  iprop(∃ f, oLoc d ↦[oSet (32 * q.val + 2 * i.val + c.val)]{fullShare} f)
def oDone (sv : Scores F) (q : Fin 4) (d : Dev nD) : sProp 𝕄 := bigSep Finset.univ fun c : Fin 2 => bigSep Finset.univ fun i : Fin 16 =>
  (oLoc d ↦[oSet (32 * q.val + 2 * i.val + c.val)]{fullShare} gv sv d)

theorem o_tiles (d : Dev nD) (f : Buf (Elt F) (oLoc d)) :
    (oLoc d ↦{fullShare} f : sProp 𝕄) = bigSep Finset.univ fun q : Fin 4 => bigSep Finset.univ fun c : Fin 2 => bigSep Finset.univ fun i : Fin 16 =>
      (oLoc d ↦[oSet (32 * q.val + 2 * i.val + c.val)]{fullShare} f) := by
  have h : (oLoc d ↦[(Finset.univ : Finset (Fin 4 × Fin 2 × Fin 16)).biUnion fun x => oSet (32 * x.1.val + 2 * x.2.2.val + x.2.1.val)]{fullShare} f : sProp 𝕄)
      = bigSep Finset.univ fun x : Fin 4 × Fin 2 × Fin 16 => oLoc d ↦[oSet (32 * x.1.val + 2 * x.2.2.val + x.2.1.val)]{fullShare} f :=
    pointsTo_biUnion _ _ fun t _ t' _ h => o_disj t t' h
  rw [o_cover] at h
  refine (h.trans (BI.bigSep_univ_prod fun x : Fin 4 × Fin 2 × Fin 16 =>
    (oLoc d ↦[oSet (32 * x.1.val + 2 * x.2.2.val + x.2.1.val)]{fullShare} f : sProp 𝕄))).trans (BI.bigSep_congr fun q _ => ?_)
  exact BI.bigSep_univ_prod fun x : Fin 2 × Fin 16 => (oLoc d ↦[oSet (32 * q.val + 2 * x.2.val + x.1.val)]{fullShare} f : sProp 𝕄)

theorem o_split (d : Dev nD) (f : Buf (Elt F) (oLoc d)) : (oLoc d ↦{fullShare} f : sProp 𝕄) ⊢ bigSep Finset.univ fun q : Fin 4 => oRaw q d := by
  rw [o_tiles]
  refine BI.bigSep_mono fun q _ => BI.bigSep_mono fun c _ => BI.bigSep_mono fun i _ => ?_
  show (oLoc d ↦[oSet (32 * q.val + 2 * i.val + c.val)]{fullShare} f : sProp 𝕄) ⊢ iprop(∃ f, oLoc d ↦[oSet (32 * q.val + 2 * i.val + c.val)]{fullShare} f)
  iintro H; iexists f; iexact H

/-! ## One chunk -/

theorem st_tiles (sv : Scores F) (q : Fin 4) (d : Dev nD) : (bigSep Finset.univ fun c : Fin ((K (F := F)).nCore q) => (P sv).st q d c : sProp 𝕄)
    = bigSep Finset.univ fun c : Fin 2 => bigSep Finset.univ fun i : Fin 16 => goAt sv q d c.val i.val := by
  match q with
  | 0 => rfl
  | 1 => rfl
  | 2 => rfl
  | 3 => rfl

theorem dn_tiles (sv : Scores F) (q : Fin 4) (d : Dev nD) : (bigSep Finset.univ fun c : Fin ((K (F := F)).nCore q) => (P sv).dn q d c : sProp 𝕄)
    = bigSep Finset.univ fun c : Fin 2 => bigSep Finset.univ fun i : Fin 16 => tdAt sv q d c.val i.val := by
  match q with
  | 0 => rfl
  | 1 => rfl
  | 2 => rfl
  | 3 => rfl

theorem st_of (sv : Scores F) (q : Fin 4) (d : Dev nD) :
    (bigSep Finset.univ fun c : Fin ((K (F := F)).nCore q) => (P sv).st q d c : sProp 𝕄) = iprop(sPts sv q d Finset.univ ∗ oRaw q d) := by
  rw [st_tiles, sPts_tiles, oRaw, ← bigSep_sep']
  refine BI.bigSep_congr fun c _ => ?_
  rw [← bigSep_sep']
  rfl

theorem dn_of (sv : Scores F) (q : Fin 4) (d : Dev nD) :
    (bigSep Finset.univ fun c : Fin ((K (F := F)).nCore q) => (P sv).dn q d c : sProp 𝕄) = iprop(sPts sv q d Finset.univ ∗ oDone sv q d) := by
  rw [dn_tiles, sPts_tiles, oDone, ← bigSep_sep']
  refine BI.bigSep_congr fun c _ => ?_
  rw [← bigSep_sep']
  rfl

/-- A chunk: its scores on the TensorCore, then the call that routes them. -/
theorem chunk (κ : GSem nD τ sig → ℕ) (q : Fin 4) (d : Dev nD) :
    iprop((K (F := F)).ctx EH (P (svOf V)) κ ∗ (K (F := F)).tcSt EH d q.val ∗ boundary (SparseCore.T d : Thread nD τ) ∗ ins V d ∗ sRaw V q d ∗ oRaw q d
        ∗ pipeGhost (F := F) q d)
      ⊢ wp (M := 𝕄) frame (wpE ((K (F := F)).defs (D (F := F))) 𝒱 (SparseCore.T d : Thread nD τ) none) Set.univ
          (do Prog.lift (.customCall (SparseCore.inner (Pipeline.entry q)) ()); (sc (F := F)).run d q)
          fun _ => iprop((K (F := F)).tcSt EH d (q.val + 1) ∗ boundary (SparseCore.T d : Thread nD τ) ∗ ins V d ∗ oDone (svOf V) q d) := by
  rw [wp_bind]
  have hst : (K (F := F)).tcSt EH d q.val = iprop(tcOwes (F := F) d q.val ∗ _) := rfl
  have hr := (K (F := F)).wp_run (D (F := F)) 𝒱 (EH := EH) (P := P (svOf V)) κ d q
    (Φ := fun _ : PUnit => iprop((K (F := F)).tcSt EH d (q.val + 1) ∗ boundary (SparseCore.T d : Thread nD τ) ∗ ins V d ∗ oDone (svOf V) q d))
  rw [st_of, dn_of] at hr
  iintro ⟨#Hctx, Hst, Hb, Hi, Hs, Ho, Hg⟩
  ihave Hl := ((K (F := F)).ctx_levAts κ) $$ Hctx
  ihave Hst' := (Entails.of_eq hst) $$ Hst
  icases Hst' with ⟨HO, Hrest⟩
  ihave Hw := (wp_scores V q d) $$ [Hb Hi Hs HO Hl Hg]
  · isplitl [Hb]; · iexact Hb
    isplitl [Hi]; · iexact Hi
    isplitl [Hs]; · iexact Hs
    isplitl [HO]; · iexact HO
    isplitl [Hl]; · iexact Hl
    iexact Hg
  ihave Hw' := (wp_wand frame _ _) $$ Hw
  iapply Hw'
  iintro %u ⟨Hb, Hi, Hs, HO⟩
  iapply hr
  isplitr; · iexact Hctx
  isplitl [HO Hrest]
  · iapply (Entails.of_eq hst.symm)
    isplitl [HO]; · iexact HO
    iexact Hrest
  isplitl [Hs Ho]
  · isplitl [Hs]; · iexact Hs
    iexact Ho
  iintro ⟨Hst, -, Ho⟩
  isplitl [Hst]; · iexact Hst
  isplitl [Hb]; · iexact Hb
  isplitl [Hi]; · iexact Hi
  iexact Ho

/-- The same with what follows the chunk. -/
theorem chunk_then (κ : GSem nD τ sig → ℕ) (q : Fin 4) (d : Dev nD) (Φ : PUnit → sProp 𝕄) :
    iprop((K (F := F)).ctx EH (P (svOf V)) κ ∗ (K (F := F)).tcSt EH d q.val ∗ boundary (SparseCore.T d : Thread nD τ) ∗ ins V d ∗ sRaw V q d ∗ oRaw q d
        ∗ pipeGhost (F := F) q d
        ∗ (∀ a, iprop((K (F := F)).tcSt EH d (q.val + 1) ∗ boundary (SparseCore.T d : Thread nD τ) ∗ ins V d ∗ oDone (svOf V) q d) -∗ Φ a))
      ⊢ wp (M := 𝕄) frame (wpE ((K (F := F)).defs (D (F := F))) 𝒱 (SparseCore.T d : Thread nD τ) none) Set.univ
          (Prog.lift (.customCall (SparseCore.inner (Pipeline.entry q)) ()))
          fun _ => wp frame (wpE ((K (F := F)).defs (D (F := F))) 𝒱 (SparseCore.T d : Thread nD τ) none) Set.univ ((sc (F := F)).run d q) Φ := by
  have hc := chunk V κ q d
  rw [← wp_bind]
  iintro ⟨Hctx, Hst, Hb, Hi, Hs, Ho, Hg, Hk⟩
  ihave Hw := hc $$ [Hctx Hst Hb Hi Hs Ho Hg]
  · isplitl [Hctx]; · iexact Hctx
    isplitl [Hst]; · iexact Hst
    isplitl [Hb]; · iexact Hb
    isplitl [Hi]; · iexact Hi
    isplitl [Hs]; · iexact Hs
    isplitl [Ho]; · iexact Ho
    iexact Hg
  iapply (wp_wand frame _ _) $$ Hw
  iexact Hk

/-! ## The launch's ghost state -/

def u₀ : UU := (initOf (K (F := F)).hsCells (K (F := F)).hsToks,
  (initOf (Pipeline.cells (nD := nD) (τ := τ) (Pipeline.pin (pcfgs (F := F)) adm) pinj) (Pipeline.launchToks (Pipeline.pin (pcfgs (F := F)) adm) pinj), 1))

theorem hu₀ (sv : Scores F) : (ownU (u₀ (F := F)) : sProp 𝕄)
    ⊢ |={Set.univ}=> iprop(BI.own (EH (initOf (K (F := F)).hsCells (K (F := F)).hsToks))
        ∗ (bigSep Finset.univ fun d : Dev nD => bigSep Finset.univ fun q : Fin 4 => pipeGhost (F := F) q d)
        ∗ bigSep Finset.univ fun thr : Thread nD τ => bigSep Finset.univ fun q : Fin 4 => (P sv).x q thr) := by
  unfold u₀
  iintro Hu
  ihave H := (ownU_pair (initOf (K (F := F)).hsCells (K (F := F)).hsToks) ((initOf (Pipeline.cells (nD := nD) (τ := τ) (Pipeline.pin (pcfgs (F := F)) adm) pinj)
    (Pipeline.launchToks (Pipeline.pin (pcfgs (F := F)) adm) pinj), 1) : UP × Counters)) $$ Hu
  icases H with ⟨HH, HP⟩
  have hf := Pipeline.fund_ghost (τ := τ) (nD := nD) (Pipeline.pin (pcfgs (F := F)) adm) (EP (F := F)) pinj
  have he : (BI.own (embR ((initOf (Pipeline.cells (nD := nD) (τ := τ) (Pipeline.pin (pcfgs (F := F)) adm) pinj)
      (Pipeline.launchToks (Pipeline.pin (pcfgs (F := F)) adm) pinj), 1) : UP × Counters)) : sProp 𝕄)
      = BI.own (EP (F := F) (initOf (Pipeline.cells (nD := nD) (τ := τ) (Pipeline.pin (pcfgs (F := F)) adm) pinj)
        (Pipeline.launchToks (Pipeline.pin (pcfgs (F := F)) adm) pinj))) := rfl
  ihave HP' := (Entails.of_eq he) $$ HP
  imod hf $$ HP' with ⟨Hc, Ht⟩
  imodintro
  isplitl [HH]; · iexact HH
  isplitl [Hc Ht]
  · rw [show (bigSep Finset.univ fun d : Dev nD => bigSep Finset.univ fun q : Fin 4 => pipeGhost (F := F) q d)
      = iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄))) from by
        rw [← bigSep_sep']
        exact BI.bigSep_congr fun c _ => bigSep_sep' ..]
    isplitl [Hc]; · iexact Hc
    iexact Ht
  rw [show (bigSep Finset.univ fun thr : Thread nD τ => bigSep Finset.univ fun q : Fin 4 => (P (F := F) sv).x q thr) = iprop(emp) from
    (BI.bigSep_congr fun _ _ => bigSep_emp_const _).trans (bigSep_emp_const _)]
  iempintro

/-! ## The program on the TensorCore -/

theorem unscopedBufs_eq (d : Dev nD) (W : (b : Ref sig .tc) → Buf (Elt F) ((d : Thread nD τ).loc b)) :
    (unscopedBufs d W : sProp 𝕄) = iprop(((d : Thread nD τ).loc main_arg0 ↦{fullShare} W main_arg0) ∗ ((d : Thread nD τ).loc main_arg1 ↦{fullShare} W main_arg1)
      ∗ ((d : Thread nD τ).loc main_arg2 ↦{fullShare} W main_arg2) ∗ (oLoc d ↦{fullShare} W main_v0) ∗ (s0Loc d ↦{fullShare} W main_v1) ∗ (s1Loc d ↦{fullShare} W main_v3)
      ∗ (s2Loc d ↦{fullShare} W main_v5) ∗ (s3Loc d ↦{fullShare} W main_v7) ∗ ((d : Thread nD τ).loc main_v9 ↦{fullShare} W main_v9)) := by
  unfold unscopedBufs
  rw [show (Finset.univ.filter fun b : Ref sig .tc => ¬ b.isScoped) = {main_arg0, main_arg1, main_arg2, main_v0, main_v1, main_v3, main_v5, main_v7, main_v9} by decide]
  simp only [SparseCore.bigSep_insert' (show main_arg0 ∉ ({main_arg1, main_arg2, main_v0, main_v1, main_v3, main_v5, main_v7, main_v9} : Finset (Ref sig .tc)) by decide)]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

abbrev Vm (c : Dev nD) (b : Ref sig .tc) : Buf (Elt F) ((c : Thread nD τ).loc b) := m ((c : Thread nD τ).loc b)

/-- What the program returns: the routed weights, token by expert. -/
def outV (d : Dev nD) : S32768x8.Idx → F .f32 := transpose S32768x8 [1, 0] (gv (svOf (Vm m)) d) transposes_S8x32768_S32768x8_1_0

abbrev FIN (d : Dev nD) : sProp 𝕄 := iprop(ins (Vm m) d ∗ ((d : Thread nD τ).loc main_v9 ↦{fullShare} outV m d))

theorem unary_pts (d : Dev nD) (f : main_v0.ty.Contents (Elt F) → main_v9.ty.Contents (Elt F)) (hx hy) (W : Valuation τ sig (Elt F)) :
    (bigSep (StableHlo.unary (τ := τ) (Val := Elt F) main_v0 main_v9 f hx hy).bufs (fun b => (((SparseCore.T d : Thread nD τ).1, b) ↦{fullShare} W b)) : sProp 𝕄)
      = iprop((oLoc d ↦{fullShare} W (Proc.devRef .tc main_v0)) ∗ ((d : Thread nD τ).loc main_v9 ↦{fullShare} W (Proc.devRef .tc main_v9))) := by
  have hb : (StableHlo.unary (τ := τ) (Val := Elt F) main_v0 main_v9 f hx hy).bufs = {Proc.devRef .tc main_v0, Proc.devRef .tc main_v9} := rfl
  rw [hb, SparseCore.bigSep_insert' (by decide), bigSep_singleton]

theorem hmain (κ : GSem nD τ sig → ℕ) (d : Dev nD) :
    iprop((K (F := F)).ctx EH (P (svOf (Vm m))) κ ∗ (K (F := F)).tcSt EH d 0 ∗ (K (F := F)).tcRes m ρ d
        ∗ bigSep Finset.univ fun q : Fin 4 => pipeGhost (F := F) q d)
      ⊢ wp (M := 𝕄) frame (wpE ((K (F := F)).defs (D (F := F))) 𝒱 (SparseCore.T d : Thread nD τ) none) Set.univ (main d)
          fun _ => iprop((K (F := F)).tcSt EH d 4 ∗ FIN m d ∗ (K (F := F)).tcEnd d) := by
  unfold SparseCore.Cfg.tcRes SparseCore.Cfg.tcEnd
  have ho : iprop(oDone (svOf (Vm m)) 0 d ∗ oDone (svOf (Vm m)) 1 d ∗ oDone (svOf (Vm m)) 2 d ∗ oDone (svOf (Vm m)) 3 d)
      ⊢ (oLoc d ↦{fullShare} gv (svOf (Vm m)) d : sProp 𝕄) := by
    rw [o_tiles, bigSep_W0]
    exact .rfl
  have hs : ∀ f, (oLoc d ↦{fullShare} f : sProp 𝕄) ⊢ iprop(oRaw 0 d ∗ oRaw 1 d ∗ oRaw 2 d ∗ oRaw 3 d) := fun f =>
    (o_split d f).trans (Entails.of_eq (bigSep_W0 _))
  have hr0 : (s0Loc d ↦{fullShare} m ((d : Thread nD τ).loc main_v1) : sProp 𝕄) ⊢ sRaw (Vm m) 0 d := .rfl
  have hr1 : (s1Loc d ↦{fullShare} m ((d : Thread nD τ).loc main_v3) : sProp 𝕄) ⊢ sRaw (Vm m) 1 d := .rfl
  have hr2 : (s2Loc d ↦{fullShare} m ((d : Thread nD τ).loc main_v5) : sProp 𝕄) ⊢ sRaw (Vm m) 2 d := .rfl
  have hr3 : (s3Loc d ↦{fullShare} m ((d : Thread nD τ).loc main_v7) : sProp 𝕄) ⊢ sRaw (Vm m) 3 d := .rfl
  rw [unscopedBufs_eq, bigSep_W0]
  simp only [main, wp_bind, wp_pure]
  iintro ⟨#Hctx, Hst, ⟨Hb, ⟨H0, H1, H2, Ho, Hs0, Hs1, Hs2, Hs3, H9⟩, Hts, -⟩, ⟨Hg0, Hg1, Hg2, Hg3⟩⟩
  iapply (StableHlo.wp_allocateBuffer (defs := (K (F := F)).defs (D (F := F))) 𝒱 (SparseCore.T d : Thread nD τ) none Set.univ main_v0 ⟨by decide, rfl⟩ (hp := rfl)
    (V := fun b => m (d, b))) $$ [Hb Ho]
  · isplitl [Hb]; · iexact Hb
    iexact Ho
  iintro %r ⟨Hb, Ho⟩
  rw [wp_ret]
  imodintro
  ihave Ho' := (hs _) $$ Ho
  icases Ho' with ⟨Ho0, Ho1, Ho2, Ho3⟩
  iapply (chunk_then (Vm m) κ 0 d)
  isplitr; · iexact Hctx
  isplitl [Hst]; · iexact Hst
  isplitl [Hb]; · iexact Hb
  isplitl [H0 H1 H2]; · isplitl [H0]; (· iexact H0); isplitl [H1]; (· iexact H1); iexact H2
  isplitl [Hs0]; · (iapply (hr0) $$ Hs0)
  isplitl [Ho0]; · iexact Ho0
  isplitl [Hg0]; · iexact Hg0
  iintro %_ ⟨Hst, Hb, Hi, Ho0⟩
  iapply (chunk_then (Vm m) κ 1 d)
  isplitr; · iexact Hctx
  isplitl [Hst]; · iexact Hst
  isplitl [Hb]; · iexact Hb
  isplitl [Hi]; · iexact Hi
  isplitl [Hs1]; · (iapply (hr1) $$ Hs1)
  isplitl [Ho1]; · iexact Ho1
  isplitl [Hg1]; · iexact Hg1
  iintro %_ ⟨Hst, Hb, Hi, Ho1⟩
  iapply (chunk_then (Vm m) κ 2 d)
  isplitr; · iexact Hctx
  isplitl [Hst]; · iexact Hst
  isplitl [Hb]; · iexact Hb
  isplitl [Hi]; · iexact Hi
  isplitl [Hs2]; · (iapply (hr2) $$ Hs2)
  isplitl [Ho2]; · iexact Ho2
  isplitl [Hg2]; · iexact Hg2
  iintro %_ ⟨Hst, Hb, Hi, Ho2⟩
  iapply (chunk_then (Vm m) κ 3 d)
  isplitr; · iexact Hctx
  isplitl [Hst]; · iexact Hst
  isplitl [Hb]; · iexact Hb
  isplitl [Hi]; · iexact Hi
  isplitl [Hs3]; · (iapply (hr3) $$ Hs3)
  isplitl [Ho3]; · iexact Ho3
  isplitl [Hg3]; · iexact Hg3
  iintro %_ ⟨Hst, Hb, Hi, Ho3⟩
  ihave Ho := ho $$ [Ho0 Ho1 Ho2 Ho3]
  · isplitl [Ho0]; · iexact Ho0
    isplitl [Ho1]; · iexact Ho1
    isplitl [Ho2]; · iexact Ho2
    iexact Ho3
  iapply (wp_hlo 𝒱 (SparseCore.T d : Thread nD τ) none Set.univ (q := fun _ => fullShare)
    (F := Function.update (fun b => m (d, b)) (Proc.devRef .tc main_v0) (gv (svOf (Vm m)) d)) (fun _ _ => rfl)) $$ [Hb Ho H9]
  · isplitl [Hb]; · iexact Hb
    rw [unary_pts, Function.update_self, Function.update_of_ne (by decide)]
    isplitl [Ho]; · iexact Ho
    iexact H9
  rw [unary_pts, StableHlo.unary_result, Function.update_self]
  iintro ⟨Hb, -, H9⟩
  rw [wp_ret]
  imodintro
  imodintro
  isplitl [Hst]; · iexact Hst
  isplitl [Hi H9]
  · isplitl [Hi]; · iexact Hi
    iexact H9
  isplitl [Hb] <;> iassumption

def fq (d : Dev nD) (s' : Phys nD τ sig (Elt F)) : Prop :=
  s'.mem.mem ((d : Thread nD τ).loc main_v9) = outV m d
    ∧ s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)

/-- A buffer held whole has the contents it is held at. -/
theorem whole_agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  unfold FIN ins
  iintro ⟨⟨⟨H0, H1, H2⟩, H9⟩, HSI⟩
  ihave H := (whole_agree _ _ s') $$ [H0 HSI]
  · isplitl [H0] <;> iassumption
  icases H with ⟨%h0, HSI⟩
  ihave H := (whole_agree _ _ s') $$ [H1 HSI]
  · isplitl [H1] <;> iassumption
  icases H with ⟨%h1, HSI⟩
  ihave H := (whole_agree _ _ s') $$ [H2 HSI]
  · isplitl [H2] <;> iassumption
  icases H with ⟨%h2, HSI⟩
  ihave H := (whole_agree _ _ s') $$ [H9 HSI]
  · isplitl [H9] <;> iassumption
  icases H with ⟨%h9, HSI⟩
  ipureintro; exact ⟨h9, h0, h1, h2⟩

/-! ## The program's run -/

def QC : PUnit × MemSt nD τ sig (Elt F) → Prop := fun r =>
  (∀ c : Dev nD, r.2.mem ((c : Thread nD τ).loc main_v9) = outV m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

/-- The program from any launch memory whose scores' maxima are reached: its result, its arguments kept, its semaphores drained. -/
theorem run_main [∀ e, Nonempty (Elt F e)] (hok : HitOK (svOf (Vm m))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (svOf (Vm m))) (A := ∅) facts v₀
    (fun q hq => match q with | 0 => nomatch hq | 1 => nomatch hq | 2 => nomatch hq | 3 => nomatch hq)
    (fun q _ => match q with | 0 => tileObl_1 _ hok | 1 => tileObl_3 _ hok | 2 => tileObl_5 _ hok | 3 => tileObl_7 _ hok)
    (fun q _ => SparseCore.Cfg.VecSplit.of_plain (vecSplit (svOf (Vm m)) q))
    m ρ main (fun d => bigSep Finset.univ fun q : Fin 4 => pipeGhost (F := F) q d) (FIN m) (u₀ (F := F))
    (sep_elim_left.trans (hu₀ (svOf (Vm m)))) (hmain m ρ) (fq m) (hfin m) (QC m) (fun _ h hz => ⟨h, hz⟩)

end Cert.Proof.Gate

end
-- ==== Proof.Token.lean ====
/-
  One token's routing over the extended reals: its largest score is reached, the word the kernel picks names the first
  expert that reaches it, and on finite scores that expert's softmax is the weight the kernel writes and exceeds the
  softmax of every expert before it.
-/
module

public import proofs.«01_k».proof.Proof.Spec
public import Idealize.ShloMosaic.Lib.IdealHost
public import Idealize.ShloMosaic.Lib.SortFacts

@[expose] public section

noncomputable section

namespace Cert.Proof.Gate

open Idealize.ShloMosaic

variable (c : Fin 8 → Ideal .f32)

theorem tokMax_eq : tokMax c = max (max (max (max (max (max (max (c 0) (c 1)) (c 2)) (c 3)) (c 4)) (c 5)) (c 6)) (c 7) := rfl

theorem le_tokMax (e : Fin 8) : c e ≤ tokMax c := by
  rw [tokMax_eq]
  fin_cases e <;> simp

theorem tokMax_mem : ∃ e, c e = tokMax c := by
  have h : ∀ (a b : Ideal .f32), max a b = a ∨ max a b = b := fun a b => max_choice a b
  rw [tokMax_eq]
  rcases h (max (max (max (max (max (max (c 0) (c 1)) (c 2)) (c 3)) (c 4)) (c 5)) (c 6)) (c 7) with e | e
  swap; · exact ⟨7, e.symm⟩
  rw [e]
  rcases h (max (max (max (max (max (c 0) (c 1)) (c 2)) (c 3)) (c 4)) (c 5)) (c 6) with e | e
  swap; · exact ⟨6, e.symm⟩
  rw [e]
  rcases h (max (max (max (max (c 0) (c 1)) (c 2)) (c 3)) (c 4)) (c 5) with e | e
  swap; · exact ⟨5, e.symm⟩
  rw [e]
  rcases h (max (max (max (c 0) (c 1)) (c 2)) (c 3)) (c 4) with e | e
  swap; · exact ⟨4, e.symm⟩
  rw [e]
  rcases h (max (max (c 0) (c 1)) (c 2)) (c 3) with e | e
  swap; · exact ⟨3, e.symm⟩
  rw [e]
  rcases h (max (c 0) (c 1)) (c 2) with e | e
  swap; · exact ⟨2, e.symm⟩
  rw [e]
  rcases h (c 0) (c 1) with e | e
  swap; · exact ⟨1, e.symm⟩
  exact ⟨0, e.symm⟩

/-- `e` is the first expert whose score is the largest. -/
structure IsTop (e : Fin 8) : Prop where
  eq : c e = tokMax c
  first : ∀ e', e' < e → c e' ≠ tokMax c

theorem exists_top : ∃ e, IsTop c e := by
  classical
  obtain ⟨e, he⟩ := tokMax_mem c
  have hn : ∃ n : ℕ, ∃ h : n < 8, c ⟨n, h⟩ = tokMax c := ⟨e.val, e.isLt, he⟩
  obtain ⟨h, hf⟩ := Nat.find_spec hn
  refine ⟨⟨Nat.find hn, h⟩, hf, fun e' hlt h' => Nat.find_min hn (m := e'.val) hlt ⟨e'.isLt, h'⟩⟩

/-- The smallest of eight words, each an expert's own or 8, by which experts keep their own. -/
def pick (b : Fin 8 → Bool) : BitVec 32 :=
  let w : Fin 8 → BitVec 32 → BitVec 32 := fun e v => Scalar.select (BitVec.ofBool (b e)) v 8#32
  IntOp.minsi (IntOp.minsi (IntOp.minsi (IntOp.minsi (IntOp.minsi (IntOp.minsi (IntOp.minsi
    (w 0 0#32) (w 1 1#32)) (w 2 2#32)) (w 3 3#32)) (w 4 4#32)) (w 5 5#32)) (w 6 6#32)) (w 7 7#32)

theorem pick_first : ∀ (b : Fin 8 → Bool) (e : Fin 8), b e = true → (∀ e', e' < e → b e' = false) → pick b = BitVec.ofNat 32 e.val := by
  have h : ∀ b0 b1 b2 b3 b4 b5 b6 b7 : Bool, ∀ e : Fin 8, (![b0, b1, b2, b3, b4, b5, b6, b7] : Fin 8 → Bool) e = true →
      (∀ e', e' < e → (![b0, b1, b2, b3, b4, b5, b6, b7] : Fin 8 → Bool) e' = false) → pick ![b0, b1, b2, b3, b4, b5, b6, b7] = BitVec.ofNat 32 e.val := by
    decide
  intro b e
  have hb : b = ![b 0, b 1, b 2, b 3, b 4, b 5, b 6, b 7] := by funext i; fin_cases i <;> rfl
  rw [hb]
  exact h _ _ _ _ _ _ _ _ e

theorem tokArg_eq : tokArg c = pick fun e => decide (c e = tokMax c) := rfl

theorem tokArg_top {e : Fin 8} (h : IsTop c e) : tokArg c = BitVec.ofNat 32 e.val := by
  rw [tokArg_eq]
  exact pick_first _ e (decide_eq_true h.eq) fun e' he' => decide_eq_false (h.first e' he')

theorem tokArg_lt : (tokArg c).toNat < 8 := by
  obtain ⟨e, he⟩ := exists_top c
  rw [tokArg_top c he, BitVec.toNat_ofNat]
  have := e.isLt
  omega

/-! ## The softmax of finite scores -/

/-- Expert `e`'s softmax. -/
def prob (e : Fin 8) : Ideal .f32 := Ideal.div (tokExp c e) (tokDen c)

theorem tokDen_eq : tokDen c = ∑ e : Fin 8, tokExp c e := by
  rw [Fin.sum_univ_eight]; rfl

theorem tokExp_real {r : Fin 8 → ℝ} (hc : ∀ e, c e = ((r e : ℝ) : EReal)) {e₀ : Fin 8} (h : IsTop c e₀) (e : Fin 8) :
    tokExp c e = ((Real.exp (r e - r e₀) : ℝ) : EReal) := by
  have hs : tokExp c e = Ideal.exp ((c e : EReal) - tokMax c) := rfl
  rw [hs, ← h.eq, hc, hc, ← EReal.coe_sub]
  rfl

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem prob_real {r : Fin 8 → ℝ} (hc : ∀ e, c e = ((r e : ℝ) : EReal)) {e₀ : Fin 8} (h : IsTop c e₀) :
    ∃ D : ℝ, 0 < D ∧ tokDen c = (D : EReal) ∧ ∀ e, prob c e = ((Real.exp (r e - r e₀) * D⁻¹ : ℝ) : EReal) := by
  have hD : 0 < ∑ e : Fin 8, Real.exp (r e - r e₀) := Finset.sum_pos (fun e _ => Real.exp_pos _) ⟨0, Finset.mem_univ _⟩
  have hd : tokDen c = ((∑ e : Fin 8, Real.exp (r e - r e₀) : ℝ) : EReal) := by
    rw [tokDen_eq, ← coe_sum]
    exact Finset.sum_congr rfl fun e _ => tokExp_real c hc h e
  refine ⟨_, hD, hd, fun e => ?_⟩
  have hne : (((∑ e : Fin 8, Real.exp (r e - r e₀)) : ℝ) : EReal) ≠ 0 := by
    rw [Ne, EReal.coe_eq_zero]; exact hD.ne'
  unfold prob Ideal.div
  rw [hd, if_neg hne, tokExp_real c hc h, EReal.coe_mul, EReal.coe_inv]

/-- The chosen expert's softmax is the weight the kernel writes. -/
theorem prob_top {r : Fin 8 → ℝ} (hc : ∀ e, c e = ((r e : ℝ) : EReal)) {e₀ : Fin 8} (h : IsTop c e₀) : prob c e₀ = tokVal c := by
  have hv : tokVal c = Ideal.div (Ideal.ofBits .f32 0x3F800000#32) (tokDen c) := rfl
  have h1 : tokExp c e₀ = (1 : EReal) := by rw [tokExp_real c hc h, sub_self, Real.exp_zero]; rfl
  rw [hv, Ideal.ofBits_one_f32, ← h1]
  rfl

theorem prob_le {r : Fin 8 → ℝ} (hc : ∀ e, c e = ((r e : ℝ) : EReal)) {e₀ : Fin 8} (h : IsTop c e₀) (e : Fin 8) : prob c e ≤ prob c e₀ := by
  obtain ⟨D, hD, -, hp⟩ := prob_real c hc h
  have hr : r e ≤ r e₀ := by
    have := le_tokMax c e
    rw [← h.eq, hc, hc] at this
    exact EReal.coe_le_coe_iff.mp this
  rw [hp, hp]
  exact EReal.coe_le_coe_iff.mpr (mul_le_mul_of_nonneg_right (Real.exp_le_exp.mpr (by linarith)) (inv_pos.mpr hD).le)

theorem prob_lt {r : Fin 8 → ℝ} (hc : ∀ e, c e = ((r e : ℝ) : EReal)) {e₀ : Fin 8} (h : IsTop c e₀) (e : Fin 8) (he : e < e₀) : prob c e < prob c e₀ := by
  obtain ⟨D, hD, -, hp⟩ := prob_real c hc h
  have hr : r e < r e₀ := by
    have := lt_of_le_of_ne (le_tokMax c e) (h.first e he)
    rw [← h.eq, hc, hc] at this
    exact EReal.coe_lt_coe_iff.mp this
  rw [hp, hp]
  exact EReal.coe_lt_coe_iff.mpr (mul_lt_mul_of_pos_right (Real.exp_lt_exp.mpr (by linarith)) (inv_pos.mpr hD))

/-! ## The first place of a stable sort by value, the greatest first -/

theorem stableSort_head {ι : Type} (f : ι → EReal) (e₀ : ι) (l₁ l₂ : List ι) (h₁ : ∀ a ∈ l₁, f a < f e₀) (h₂ : ∀ a ∈ l₂, f a ≤ f e₀) :
    ∃ t, stableSort (fun k k' => decide (f k' < f k)) (l₁ ++ e₀ :: l₂) = e₀ :: t := by
  induction l₁ with
  | nil =>
    show ∃ t, insertBefore _ e₀ (stableSort _ l₂) = e₀ :: t
    have hm := fun b (hb : b ∈ stableSort (fun k k' => decide (f k' < f k)) l₂) => h₂ b ((perm_stableSort _ l₂).mem_iff.mp hb)
    generalize stableSort (fun k k' => decide (f k' < f k)) l₂ = L at hm
    cases L with
    | nil => exact ⟨[], rfl⟩
    | cons b L =>
      refine ⟨b :: L, ?_⟩
      unfold insertBefore
      rw [if_neg]
      simpa using hm b List.mem_cons_self
  | cons a l₁ ih =>
    obtain ⟨t, ht⟩ := ih fun b hb => h₁ b (List.mem_cons_of_mem _ hb)
    refine ⟨insertBefore (fun k k' => decide (f k' < f k)) a t, ?_⟩
    show insertBefore _ a (stableSort _ (l₁ ++ e₀ :: l₂)) = _
    rw [ht]
    show (if _ then _ else _) = _
    rw [if_pos]
    exact decide_eq_true (h₁ a List.mem_cons_self)

/-- A stable sort of `n` values, the greatest first, starts with the first place that holds the greatest. -/
theorem sortedFrom_top {n : ℕ} (f : Fin n → EReal) (e₀ : Fin n) (hle : ∀ e, f e ≤ f e₀) (hlt : ∀ e, e < e₀ → f e < f e₀) (k : Fin n) (hk : k.val = 0) :
    sortedFrom (fun k k' => decide (f k' < f k)) k = e₀ := by
  obtain ⟨l₁, l₂, hl⟩ := List.append_of_mem (List.mem_finRange e₀)
  have hp := List.pairwise_lt_finRange n
  rw [hl, List.pairwise_append] at hp
  obtain ⟨t, ht⟩ := stableSort_head f e₀ l₁ l₂ (fun a ha => hlt a (hp.2.2 a ha e₀ List.mem_cons_self)) fun a _ => hle a
  have hs : sortPositions n (fun k k' => decide (f k' < f k)) = e₀ :: t := by rw [sortPositions, hl, ht]
  unfold sortedFrom
  simp only [List.get_eq_getElem, Fin.val_cast, hk, hs, List.getElem_cons_zero]

end Cert.Proof.Gate

end
-- ==== Proof.RefValue.lean ====
/-
  The reference's result read at one element: the first expert with the largest softmax has that softmax, every other
  expert zero.
-/
module

public import proofs.«01_k».proof.Proof.Token
public import proofs.«01_k».proof.Proof.Gen.ReferenceIdeal.Run
public import Idealize.ShloMosaic.Lib.Pointwise
public import Idealize.ShloMosaic.Lib.ScatterToDense.RefScatter

@[expose] public section

noncomputable section

namespace Cert.Proof.Gate

open Idealize.ShloMosaic Idealize.ShloMosaic.TcCoe
open Cert.ReferenceIdeal Cert.ReferenceIdeal.Gen

/-! ## The reference's stages -/

/-- The scores, token by expert. -/
def refS (x : FVec Ideal S32768x768 .f32) (w : FVec Ideal S8x768 .f32) (b : FVec Ideal S8 .f32) : FVec Ideal S32768x8 .f32 :=
  addf (Host.dotGeneral dot_S32768x768_S768x8_S32768x8_1_0_0_1_n_n none x (transpose S768x8 [1, 0] w transposes_S8x768_S768x8_1_0))
    (broadcastInDim S32768x8 ![0, 1] bcast_S1x8_S32768x8_0_1 (broadcastInDim S1x8 ![1] bcast_S8_S1x8_1 b))

/-- The exponentials of the scores, each token's largest taken off. -/
def refE (s : FVec Ideal S32768x8 .f32) : FVec Ideal S32768x8 .f32 :=
  Host.exp (subf s (broadcastInDim S32768x8 ![0, 1] bcast_S32768x1_S32768x8_0_1 (broadcastInDim S32768x1 ![0] bcast_S32768_S32768x1_0
    (maximumf (broadcastInDim S32768 ![] bcast_S_S32768 (constant S_ .f32 0xFF800000#32))
      (Host.reduce FloatOps.maximumf s (constant S_ .f32 0xFF800000#32) reducesTo_S32768x8_S32768_d1 h_S_)))))

/-- The softmax. -/
def refP (s : FVec Ideal S32768x8 .f32) : FVec Ideal S32768x8 .f32 :=
  Host.divf (refE s) (broadcastInDim S32768x8 ![0, 1] bcast_S32768x1_S32768x8_0_1 (broadcastInDim S32768x1 ![0] bcast_S32768_S32768x1_0
    (Host.reduceAdd (refE s) (constant S_ .f32 0x00000000#32) reducesTo_S32768x8_S32768_d1 h_S_)))

/-- The largest softmax and its expert. -/
def refT (p : FVec Ideal S32768x8 .f32) : FVec Ideal S32768x1 .f32 × IVec S32768x1 32 :=
  Host.topK S32768x1 1 (FloatOps.cmpfTotal .gt) p sliceFits_S32768x8_S32768x1

/-- The pairs of a token and its expert. -/
def refI (i : IVec S32768x1 32) : IVec S32768x1x2 32 :=
  concatenate S32768x1x2 2 [⟨S32768x1x1, (broadcastInDim S32768x1x1 ![0, 1] bcast_S32768x1_S32768x1x1_0_1 (select (cmpi .slt (broadcastInDim S32768x1 ![0] bcast_S32768_S32768x1_0 (iotaInDim S32768 32 0)) (broadcastInDim S32768x1 ![] bcast_S_S32768x1 (constantI S_ 32 0#32))) (addi (broadcastInDim S32768x1 ![0] bcast_S32768_S32768x1_0 (iotaInDim S32768 32 0)) (broadcastInDim S32768x1 ![] bcast_S_S32768x1 (constantI S_ 32 32768#32))) (broadcastInDim S32768x1 ![0] bcast_S32768_S32768x1_0 (iotaInDim S32768 32 0))))⟩,
    ⟨S32768x1x1, (broadcastInDim S32768x1x1 ![0, 1] bcast_S32768x1_S32768x1x1_0_1 (select (cmpi .slt i (broadcastInDim S32768x1 ![] bcast_S_S32768x1 (constantI S_ 32 0#32))) (addi i (broadcastInDim S32768x1 ![] bcast_S_S32768x1 (constantI S_ 32 8#32))) i))⟩]
    concatenates_S32768x1x1_S32768x1x1_S32768x1x2_d2

/-- The result. -/
def refO (p : FVec Ideal S32768x8 .f32) : FVec Ideal S32768x8 .f32 :=
  Host.scatter scatter_S32768x8_S32768x1x2_S32768x1_n_01_01_2 (fun _ b => b) (broadcastInDim S32768x8 ![] bcast_S_S32768x8 (constant S_ .f32 0x00000000#32))
    (refI (refT p).2) (refT p).1

theorem res_eq (m : (ℓ : Loc nD τ sig) → Buf (Elt Ideal) ℓ) (c : Dev nD) :
    Cert.ReferenceIdeal.Value.res_main_v32 m c
      = refO (refP (refS (m ((c : Thread nD τ).loc main_arg0)) (m ((c : Thread nD τ).loc main_arg1)) (m ((c : Thread nD τ).loc main_arg2)))) := rfl

/-! ## Each stage at an index -/

/-- A token's score for an expert. -/
def score (x : FVec Ideal S32768x768 .f32) (w : FVec Ideal S8x768 .f32) (b : FVec Ideal S8 .f32) (t : Fin 32768) (e : Fin 8) : Ideal .f32 :=
  (∑ k : Fin 768, (w (ix2 e k) : EReal) * x (ix2 t k)) + b (ix1 e)

theorem refS_at (x : FVec Ideal S32768x768 .f32) (w : FVec Ideal S8x768 .f32) (b : FVec Ideal S8 .f32) (t : Fin 32768) (e : Fin 8) :
    refS x w b (ix2 t e) = score x w b t e := by
  pointwise [refS, score]
  refine congrArg (· + b (ix1 e)) (Finset.sum_congr rfl fun k _ => ?_)
  exact mul_comm (x (ix2 t k) : EReal) (w (ix2 e k))

theorem ofBits_negInf : Ideal.ofBits .f32 0xFF800000#32 = (⊥ : EReal) := by
  simp [Ideal.ofBits, Ideal.ieee]

theorem fold_tokMax (c : Fin 8 → Ideal .f32) : Finset.fold max (⊥ : EReal) c Finset.univ = tokMax c := by
  refine le_antisymm (Finset.fold_max_le _ |>.mpr ⟨bot_le, fun e _ => le_tokMax c e⟩) ?_
  obtain ⟨e, he⟩ := tokMax_mem c
  exact (Finset.le_fold_max _).mpr (Or.inr ⟨e, Finset.mem_univ _, he.ge⟩)

theorem refE_at (s : FVec Ideal S32768x8 .f32) (t : Fin 32768) (e : Fin 8) : refE s (ix2 t e) = tokExp (fun e => s (ix2 t e)) e := by
  pointwise [refE]
  rw [ofBits_negInf, fold_tokMax, max_eq_right bot_le]
  rfl

theorem refP_at (s : FVec Ideal S32768x8 .f32) (t : Fin 32768) (e : Fin 8) : refP s (ix2 t e) = prob (fun e => s (ix2 t e)) e := by
  pointwise [refP]
  unfold prob
  rw [tokDen_eq, refE_at]
  exact congrArg _ (Finset.sum_congr rfl fun e _ => refE_at s t e)

theorem refT_at (p : FVec Ideal S32768x8 .f32) (t : Fin 32768) (e₀ : Fin 8) (hle : ∀ e, p (ix2 t e) ≤ p (ix2 t e₀))
    (hlt : ∀ e, e < e₀ → p (ix2 t e) < p (ix2 t e₀)) :
    (refT p).1 (ix2 t 0) = p (ix2 t e₀) ∧ (refT p).2 (ix2 t 0) = BitVec.ofNat 32 e₀.val := by
  have hs := sortedFrom_top (fun e => p (ix2 t e)) e₀ hle hlt (0 : Fin 8) rfl
  have ha : ∀ k : Fin 8, (ix2 t (0 : Fin 8) : S32768x8.Idx).along 1 k = ix2 t k := fun k => by
    funext a; match a with | ⟨0, _⟩ => rfl | ⟨1, _⟩ => rfl
  have hb : (fun k k' : Fin 8 => FloatOps.cmpfTotal (F := Ideal) (φ := .f32) .gt (p ((ix2 t (0 : Fin 8) : S32768x8.Idx).along 1 k)) (p ((ix2 t (0 : Fin 8) : S32768x8.Idx).along 1 k')) == 1#1)
      = fun k k' : Fin 8 => decide (p (ix2 t k') < p (ix2 t k)) := by
    funext k k'
    rw [ha, ha]
    show (BitVec.ofBool (decide (p (ix2 t k') < p (ix2 t k))) == 1#1) = _
    generalize decide (p (ix2 t k') < p (ix2 t k)) = b
    cases b <;> rfl
  have h1 : ∀ (y : IVec S32768x8 32), (Host.sort2 S32768x8 1 (fun l r : EReal × BitVec 32 => FloatOps.cmpfTotal (F := Ideal) (φ := .f32) .gt l.1 r.1) p y).1 (ix2 t 0) = p (ix2 t e₀)
      ∧ (Host.sort2 S32768x8 1 (fun l r : EReal × BitVec 32 => FloatOps.cmpfTotal (F := Ideal) (φ := .f32) .gt l.1 r.1) p y).2 (ix2 t 0) = y (ix2 t e₀) := fun y => by
    have e : (ix2 t (0 : Fin 8) : S32768x8.Idx).along 1 (sortedFrom (n := 8) (fun k k' : Fin 8 => FloatOps.cmpfTotal (F := Ideal) (φ := .f32) .gt (p ((ix2 t (0 : Fin 8) : S32768x8.Idx).along 1 k)) (p ((ix2 t (0 : Fin 8) : S32768x8.Idx).along 1 k')) == 1#1) (0 : Fin 8))
        = ix2 t e₀ := (congrArg _ ((congrArg (fun B => sortedFrom (n := 8) B 0) hb).trans hs)).trans (ha e₀)
    exact ⟨congrArg p e, congrArg y e⟩
  have h2 : ∀ {α : Type} (v : S32768x8.Idx → α), extractStridedSlice S32768x1 (fun _ => 0) v sliceFits_S32768x8_S32768x1 (ix2 t 0) = v (ix2 t 0) := fun v => by
    refine congrArg v ?_
    funext a
    match a with
    | ⟨0, _⟩ => exact Fin.ext (Nat.zero_add _)
    | ⟨1, _⟩ => rfl
  have h3 := h1 fun i => if hd : 1 < S32768x8.rank then iotaInDim S32768x8 32 ⟨1, hd⟩ i else 0#32
  exact ⟨(h2 _).trans h3.1, (h2 _).trans (h3.2.trans rfl)⟩

theorem refI_tok (i : IVec S32768x1 32) (t : Fin 32768) : refI i (ix3 t 0 0) = BitVec.ofNat 32 t.val := by
  pointwise [refI]
  refine Routing.wrap_of_lt _ _ ?_
  rw [BitVec.toNat_ofNat]
  have := t.isLt
  omega

theorem refI_exp (i : IVec S32768x1 32) (t : Fin 32768) (h : (i (ix2 t 0)).toNat < 8) : refI i (ix3 t 0 1) = i (ix2 t 0) := by
  pointwise [refI]
  exact Routing.wrap_of_lt _ _ (by omega)

/-- The reference's result at a token and an expert. -/
theorem refO_at (s : FVec Ideal S32768x8 .f32) (r : Fin 32768 → Fin 8 → ℝ) (hr : ∀ t e, s (ix2 t e) = ((r t e : ℝ) : EReal)) (t : Fin 32768) (e : Fin 8) :
    refO (refP s) (ix2 t e) = if e.val = (tokArg fun e => s (ix2 t e)).toNat then tokVal (fun e => s (ix2 t e)) else Scalar.ofBits .f32 0x00000000#32 := by
  have ht : ∀ t, (refT (refP s)).1 (ix2 t 0) = tokVal (fun e => s (ix2 t e)) ∧ (refT (refP s)).2 (ix2 t 0) = tokArg fun e => s (ix2 t e) := fun t => by
    obtain ⟨e₀, h₀⟩ := exists_top fun e => s (ix2 t e)
    have hc : ∀ e, (fun e => s (ix2 t e)) e = ((r t e : ℝ) : EReal) := hr t
    obtain ⟨h1, h2⟩ := refT_at (refP s) t e₀ (fun e => by rw [refP_at, refP_at]; exact prob_le _ hc h₀ e)
      (fun e he => by rw [refP_at, refP_at]; exact prob_lt _ hc h₀ e he)
    rw [h1, h2, refP_at, prob_top _ hc h₀, tokArg_top _ h₀]
    exact ⟨rfl, rfl⟩
  have h := ScatterToDense.scatter_eq_GS scatter_S32768x8_S32768x1x2_S32768x1_n_01_01_2 rfl rfl rfl (by norm_num) (by norm_num)
    (broadcastInDim S32768x8 ![] bcast_S_S32768x8 (constant (F := Ideal) S_ .f32 0x00000000#32)) (refI (refT (refP s)).2) (refT (refP s)).1
    (fun t _ => tokArg fun e => s (ix2 t e)) (fun t _ => tokVal fun e => s (ix2 t e))
    (fun t k => by rw [← ix3_eq_valueIdx]; obtain rfl : k = 0 := Subsingleton.elim _ _; exact refI_tok _ t)
    (fun t k => by
      rw [← ix3_eq_valueIdx]; obtain rfl : k = 0 := Subsingleton.elim _ _
      rw [refI_exp _ t (by rw [(ht t).2]; exact tokArg_lt _), (ht t).2])
    (fun t k => by rw [← ix2_eq_valueIdx]; obtain rfl : k = 0 := Subsingleton.elim _ _; exact (ht t).1) t e
  rw [← ix2_eq_valueIdx] at h
  refine h.trans ?_
  rw [ScatterToDense.GS_succ]
  rfl

end Cert.Proof.Gate

end
-- ==== Proof.Value.lean ====
/-
  The kernel's result and the reference's are equal on finite arguments.
-/
module

public import proofs.«01_k».proof.Proof.RefValue
public import proofs.«01_k».proof.Proof.Main
public import proofs.«01_k».proof.Proof.Gen.Pre_finite
public import Idealize.ShloMosaic.Lib.ReduceAll

@[expose] public section

noncomputable section

namespace Cert.Proof.Gate

open Idealize.ShloMosaic Idealize.ShloMosaic.TcCoe

/-! ## Finite arguments -/

/-- The element's magnitude below the pattern of infinity: a real number. -/
theorem real_of_lt (v : Ideal .f32) (h : FloatOps.cmpf (F := Ideal) (φ := .f32) .olt (FloatOps.hostAbsf v) (Ideal.ofBits .f32 0x7F800000#32) = 1#1) :
    ∃ r : ℝ, v = (r : EReal) := by
  have ht : Ideal.ofBits .f32 0x7F800000#32 = (⊤ : EReal) := by simp [Ideal.ofBits, Ideal.ieee]
  have h' : BitVec.ofBool (decide (max (v : EReal) (-v) < Ideal.ofBits .f32 0x7F800000#32)) = 1#1 := h
  rw [ht] at h'
  have hlt : max (v : EReal) (-v) < ⊤ := by
    by_contra hn
    rw [decide_eq_false hn] at h'
    exact absurd h' (by decide)
  induction v using EReal.rec with
  | bot => simp at hlt
  | top => simp at hlt
  | coe r => exact ⟨r, rfl⟩

theorem pre_real (x : FVec Ideal Cert.Pre_finite.S32768x768 .f32) (w : FVec Ideal Cert.Pre_finite.S8x768 .f32) (b : FVec Ideal Cert.Pre_finite.S8 .f32)
    (h : Cert.Pre_finite.fn (F := Ideal) x w b = fun _ => 1#1) :
    (∀ i, ∃ r : ℝ, x i = (r : EReal)) ∧ (∀ i, ∃ r : ℝ, w i = (r : EReal)) ∧ ∀ i, ∃ r : ℝ, b i = (r : EReal) := by
  have e := congrFun h (fun a => a.elim0)
  unfold Cert.Pre_finite.fn at e
  obtain ⟨e1, e2⟩ := IntOp.andi_eq_one.1 e
  obtain ⟨e3, e4⟩ := IntOp.andi_eq_one.1 e1
  haveI : Subsingleton Cert.Pre_finite.S_.Idx := ⟨fun a b => funext fun k => k.elim0⟩
  exact ⟨fun i => real_of_lt _ (Host.reduce_andi_all _ _ _ _ _ e3 i), fun i => real_of_lt _ (Host.reduce_andi_all _ _ _ _ _ e4 i),
    fun i => real_of_lt _ (Host.reduce_andi_all _ _ _ _ _ e2 i)⟩

/-- The score of finite arguments is finite. -/
theorem score_real (x : FVec Ideal Cert.ReferenceIdeal.S32768x768 .f32) (w : FVec Ideal Cert.ReferenceIdeal.S8x768 .f32) (b : FVec Ideal Cert.ReferenceIdeal.S8 .f32)
    (hx : ∀ i, ∃ r : ℝ, x i = (r : EReal)) (hw : ∀ i, ∃ r : ℝ, w i = (r : EReal)) (hb : ∀ i, ∃ r : ℝ, b i = (r : EReal)) (t : Fin 32768) (e : Fin 8) :
    ∃ r : ℝ, score x w b t e = (r : EReal) := by
  choose X hX using hx
  choose W hW using hw
  choose B hB using hb
  refine ⟨(∑ k : Fin 768, W (ix2 e k) * X (ix2 t k)) + B (ix1 e), ?_⟩
  unfold score
  rw [EReal.coe_add, ← coe_sum, hB]
  refine congrArg (· + ((B (ix1 e) : ℝ) : EReal)) (Finset.sum_congr rfl fun k _ => ?_)
  rw [hW, hX, EReal.coe_mul]

/-! ## The kernel's scores -/

open Cert.KernelIdeal Cert.KernelIdeal.Gen

theorem blkScores_at (x : FVec Ideal S4096x768 .f32) (w : FVec Ideal S8x768 .f32) (b : FVec Ideal S8 .f32) (e : Fin 8) (t : Fin 4096) :
    blkScores x w b (ix2 e t) = (∑ k : Fin 768, (w (ix2 e k) : EReal) * x (ix2 t k)) + b (ix1 e) := by
  pointwise [blkScores, k0_pay1]

theorem scoreOf_at (x : FVec Ideal S32768x768 .f32) (w : FVec Ideal S8x768 .f32) (b : FVec Ideal S8 .f32) (q : Fin 4) (e : Fin 8) (t : Fin 8192) :
    scoreOf x w b q (ix2 e t) = score x w b ⟨8192 * q.val + t.val, by have := q.isLt; have := t.isLt; omega⟩ e := by
  unfold scoreOf
  refine (blkScores_at _ w b _ _).trans ?_
  unfold score
  refine congrArg (· + (b (ix1 e) : EReal)) (Finset.sum_congr rfl fun k _ => ?_)
  refine congrArg (fun i => (w (ix2 e k) : EReal) * x i) (congrArg (fun a => ix2 a k) (Fin.ext ?_))
  show 8192 * q.val + 4096 * (t.val / 4096) + t.val % 4096 = 8192 * q.val + t.val
  omega

variable (m : (ℓ : Loc nD τ sig) → Buf (Elt Ideal) ℓ)

theorem hitOK : HitOK (svOf (Vm m)) := fun q d c => tokArg_lt _

/-- The token's column of the kernel's scores is the column of plain scores. -/
theorem col_scoreOf (d : Dev nD) (t : Fin 32768) :
    col (svOf (Vm m) ⟨t.val / 8192, by have := t.isLt; omega⟩ d) (⟨t.val % 8192, by omega⟩ : Fin 8192)
      = fun e => score (m ((d.tc : Thread nD τ).loc main_arg0)) (m ((d.tc : Thread nD τ).loc main_arg1)) (m ((d.tc : Thread nD τ).loc main_arg2)) t e := by
  funext e
  refine (scoreOf_at _ _ _ _ e _).trans ?_
  refine congrArg (fun a => score (m ((d.tc : Thread nD τ).loc main_arg0)) (m ((d.tc : Thread nD τ).loc main_arg1)) (m ((d.tc : Thread nD τ).loc main_arg2)) a e) (Fin.ext ?_)
  show 8192 * (t.val / 8192) + t.val % 8192 = t.val
  omega

/-- The kernel's result at one token and expert. -/
theorem outV_at (d : Dev nD) (t : Fin 32768) (e : Fin 8) :
    outV m d (ix2 t e)
      = if e.val = (tokArg fun e' => score (m ((d.tc : Thread nD τ).loc main_arg0)) (m ((d.tc : Thread nD τ).loc main_arg1)) (m ((d.tc : Thread nD τ).loc main_arg2)) t e').toNat
        then tokVal fun e' => score (m ((d.tc : Thread nD τ).loc main_arg0)) (m ((d.tc : Thread nD τ).loc main_arg1)) (m ((d.tc : Thread nD τ).loc main_arg2)) t e'
        else Scalar.ofBits .f32 0x00000000#32 := by
  have h : outV m d (ix2 t e) = gv (svOf (Vm m)) d (ix2 e t) := by
    pointwise [outV]
  rw [h, ← col_scoreOf m d t]
  rfl

/-- On finite arguments the kernel's result is the reference's. -/
theorem outV_eq (m' : (ℓ : Loc Cert.ReferenceIdeal.nD Cert.ReferenceIdeal.τ Cert.ReferenceIdeal.sig) → Buf (Elt Ideal) ℓ) (d : Dev nD)
    (hpre : Cert.Pre_finite.fn (F := Ideal) (m ((d.tc : Thread nD τ).loc main_arg0)) (m ((d.tc : Thread nD τ).loc main_arg1)) (m ((d.tc : Thread nD τ).loc main_arg2)) = fun _ => 1#1)
    (h0 : m' ((d.tc : Thread Cert.ReferenceIdeal.nD Cert.ReferenceIdeal.τ).loc Cert.ReferenceIdeal.main_arg0) = m ((d.tc : Thread nD τ).loc main_arg0))
    (h1 : m' ((d.tc : Thread Cert.ReferenceIdeal.nD Cert.ReferenceIdeal.τ).loc Cert.ReferenceIdeal.main_arg1) = m ((d.tc : Thread nD τ).loc main_arg1))
    (h2 : m' ((d.tc : Thread Cert.ReferenceIdeal.nD Cert.ReferenceIdeal.τ).loc Cert.ReferenceIdeal.main_arg2) = m ((d.tc : Thread nD τ).loc main_arg2)) :
    Cert.ReferenceIdeal.Value.res_main_v32 m' d = outV m d := by
  obtain ⟨hx, hw, hb⟩ := pre_real _ _ _ hpre
  have hs := score_real _ _ _ hx hw hb
  choose r hr using hs
  rw [res_eq, h0, h1, h2]
  funext j
  obtain ⟨t, e, rfl⟩ : ∃ t e, j = ix2 t e := ⟨j 0, j 1, eq_ix2 j⟩
  rw [outV_at]
  refine (refO_at _ r (fun t e => (refS_at _ _ _ t e).trans (hr t e)) t e).trans ?_
  rw [show (fun e' => refS (m ((d.tc : Thread nD τ).loc main_arg0)) (m ((d.tc : Thread nD τ).loc main_arg1)) (m ((d.tc : Thread nD τ).loc main_arg2)) (ix2 t e'))
    = fun e' => score (m ((d.tc : Thread nD τ).loc main_arg0)) (m ((d.tc : Thread nD τ).loc main_arg1)) (m ((d.tc : Thread nD τ).loc main_arg2)) t e' from funext fun e' => refS_at _ _ _ t e']

end Cert.Proof.Gate

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_finite
public import proofs.«01_k».proof.Proof.Main
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem

/-- The kernel's run over the extended reals, at any arguments: every token's chosen expert is one of the eight. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (Gate.QC m) :=
  Gate.run_main m g (Gate.hitOK m)

/-- The kernel runs, keeps its arguments and leaves every semaphore counter at zero. -/
theorem frame_kernel : Cert.quiescent_KernelIdeal := fun m g _ =>
  (θ_run Cert.KernelIdeal.defs _ _).mono (fun _ h => ⟨fun c => (h.1 c).2, h.2⟩) (run_kernel m g)

/-- So does the reference. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- On finite arguments the two return the same array. -/
theorem equal_results : Cert.algebraic_KernelIdeal_ReferenceIdeal_pre_finite := fun m g m' g' hpre hargs =>
  ⟨fun c => Gate.outV m c, (θ_run Cert.KernelIdeal.defs _ _).mono (fun _ h => h.1) (run_kernel m g),
    (θ_run Cert.ReferenceIdeal.defs _ _).mono
      (fun _ h c => ⟨(h c).1.trans (Gate.outV_eq m m' c (hpre c) (hargs c).1 (hargs c).2.1 (hargs c).2.2), (h c).2⟩)
      (Cert.ReferenceIdeal.Value.run (F := Ideal) m' g')⟩

theorem claim : Cert.Claim :=
  ⟨Cert.KernelIdeal.Gen.facts, Cert.ReferenceIdeal.Gen.facts, Cert.Pre_finite.Gen.facts,
    frame_kernel, fun m g _ => frame_kernel m g trivial, frame_reference, fun m g _ => frame_reference m g trivial, equal_results⟩

end Cert.Proof

end
